-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.Statement Cert.KernelIdeal.S64x128 Cert.KernelIdeal.S32x128
  ∧ IdealRules.bf16_pair.Statement Cert.KernelIdeal.S64x512 Cert.KernelIdeal.S32x512
  ∧ IdealRules.bf16_pack.Statement Cert.KernelIdeal.S32x512

def algebraic_KernelIdeal_ReferenceIdeal_on_claimed [hKernelIdeal : Cert.KernelIdeal.Facts] [hReferenceIdeal : Cert.ReferenceIdeal.Facts] [hOn_claimed : Cert.On_claimed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![12288, 512]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v3_0) i = v0 c i)
          ∧ (∀ i : (⟨2, ![12288, 64]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v3_1) i = v1 c i)
          ∧ (∀ i : (⟨2, ![12288, 5120]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.KernelIdeal.nD Cert.KernelIdeal.τ).loc Cert.KernelIdeal.main_v3_2) i = v2 c i)
          ∧ (∀ i : (⟨2, ![12288, 40]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 i = 1#1 → r.2.mem ((c.tc : Thread Cert.KernelIdeal.nD Cert.KernelIdeal.τ).loc Cert.KernelIdeal.main_v3_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![12288, 512]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v14_0) i = v0 c i)
          ∧ (∀ i : (⟨2, ![12288, 64]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v14_1) i = v1 c i)
          ∧ (∀ i : (⟨2, ![12288, 5120]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.ReferenceIdeal.nD Cert.ReferenceIdeal.τ).loc Cert.ReferenceIdeal.main_v14_2) i = v2 c i)
          ∧ (∀ i : (⟨2, ![12288, 40]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 i = 1#1 → r.2.mem ((c.tc : Thread Cert.ReferenceIdeal.nD Cert.ReferenceIdeal.τ).loc Cert.ReferenceIdeal.main_v14_3) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hOn_claimed : Cert.On_claimed.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_claimed (hKernelIdeal := hKernelIdeal) (hReferenceIdeal := hReferenceIdeal) (hOn_claimed := hOn_claimed)
-- ==== On_claimed.lean ====
abbrev S6x2048x5120 : Shape := ⟨3, ![6, 2048, 5120]⟩
abbrev S576x5120 : Shape := ⟨2, ![576, 5120]⟩
abbrev S5x40 : Shape := ⟨2, ![5, 40]⟩
abbrev S512 : Shape := ⟨1, ![512]⟩
abbrev S6x2048 : Shape := ⟨2, ![6, 2048]⟩
abbrev S12288x40x128 : Shape := ⟨3, ![12288, 40, 128]⟩
abbrev S_ : Shape := ⟨0, ![]⟩
abbrev S12288x40 : Shape := ⟨2, ![12288, 40]⟩
abbrev S12288 : Shape := ⟨1, ![12288]⟩
abbrev S12288x1 : Shape := ⟨2, ![12288, 1]⟩
abbrev S12288x512 : Shape := ⟨2, ![12288, 512]⟩
abbrev S12288x64 : Shape := ⟨2, ![12288, 64]⟩
abbrev S12288x40x1 : Shape := ⟨3, ![12288, 40, 1]⟩
abbrev S12288x5120 : Shape := ⟨2, ![12288, 5120]⟩

class Facts : Prop where
  shapeCasts_S6x2048x5120_S12288x40x128 : S6x2048x5120.ShapeCasts S12288x40x128
  reducesTo_S12288x40x128_S12288x40_d2 : S12288x40x128.ReducesTo [2] S12288x40
  h_S_ : 0 < S_.numel
  bitsLt_bf16_f32 : FTy.bits .bf16 < FTy.bits .f32
  bcast_S_S12288x40 : S_.BroadcastsInDim S12288x40 (![] : Fin 0 → Fin S12288x40.rank)
  reducesTo_S12288x40_S12288_d1 : S12288x40.ReducesTo [1] S12288
  bcast_S12288_S12288x1_0 : S12288.BroadcastsInDim S12288x1 (![0] : Fin 1 → Fin S12288x1.rank)
  shapeCasts_S6x2048_S12288x1 : S6x2048.ShapeCasts S12288x1
  bcast_S_S12288x1 : S_.BroadcastsInDim S12288x1 (![] : Fin 0 → Fin S12288x1.rank)
  bcast_S12288x1_S12288x512_0_1 : S12288x1.BroadcastsInDim S12288x512 (![0, 1] : Fin 2 → Fin S12288x512.rank)
  bcast_S12288x1_S12288x64_0_1 : S12288x1.BroadcastsInDim S12288x64 (![0, 1] : Fin 2 → Fin S12288x64.rank)
  bcast_S12288x40_S12288x40x1_0_1 : S12288x40.BroadcastsInDim S12288x40x1 (![0, 1] : Fin 2 → Fin S12288x40x1.rank)
  bcast_S12288x40x1_S12288x40x128_0_1_2 : S12288x40x1.BroadcastsInDim S12288x40x128 (![0, 1, 2] : Fin 3 → Fin S12288x40x128.rank)
  shapeCasts_S12288x40x128_S12288x5120 : S12288x40x128.ShapeCasts S12288x5120

variable [Facts]

def fn_part1 {F : FTy → Type} [FloatOps F] (main_arg4 : IVec S6x2048 32) (main_v3 : FVec F S12288x40 .f32) (main_v7 : IVec S12288x40 1) (main_v9 : IVec S12288x40 1) (main_v15 : IVec S12288x40 1) (main_v16 : FVec F S12288x40 .f32) : IVec S12288x512 1 × IVec S12288x64 1 × IVec S12288x5120 1 × IVec S12288x40 1 :=
  let main_v17 : IVec S12288x40 1 := cmpf .oeq main_v3 main_v16
  let main_cst_6 : FVec F S_ .f32 := constant S_ .f32 0x7F600000#32
  let main_v18 : FVec F S12288x40 .f32 := broadcastInDim S12288x40 ![] bcast_S_S12288x40 main_cst_6
  let main_v19 : IVec S12288x40 1 := cmpf .olt main_v3 main_v18
  let main_v20 : IVec S12288x40 1 := andi main_v9 main_v19
  let main_v21 : IVec S12288x40 1 := ori main_v17 main_v20
  let main_c : IVec S_ 1 := constantI S_ 1 1#1
  let main_v22 : IVec S12288 1 := (fun x v => Host.reduce IntOp.andi x v reducesTo_S12288x40_S12288_d1 h_S_) main_v7 main_c
  let main_v23 : IVec S12288x1 1 := broadcastInDim S12288x1 ![0] bcast_S12288_S12288x1_0 main_v22
  let main_v24 : IVec S12288x1 32 := shapeCast S12288x1 main_arg4 shapeCasts_S6x2048_S12288x1
  let main_c_7 : IVec S_ 32 := constantI S_ 32 0#32
  let main_v25 : IVec S12288x1 32 := broadcastInDim S12288x1 ![] bcast_S_S12288x1 main_c_7
  let main_v26 : IVec S12288x1 1 := cmpi .eq main_v24 main_v25
  let main_v27 : IVec S12288x1 1 := andi main_v23 main_v26
  let main_v28 : IVec S12288x512 1 := broadcastInDim S12288x512 ![0, 1] bcast_S12288x1_S12288x512_0_1 main_v23
  let main_v29 : IVec S12288x64 1 := broadcastInDim S12288x64 ![0, 1] bcast_S12288x1_S12288x64_0_1 main_v27
  let main_v30 : IVec S12288x40x1 1 := broadcastInDim S12288x40x1 ![0, 1] bcast_S12288x40_S12288x40x1_0_1 main_v15
  let main_v31 : IVec S12288x40x128 1 := broadcastInDim S12288x40x128 ![0, 1, 2] bcast_S12288x40x1_S12288x40x128_0_1_2 main_v30
  let main_v32 : IVec S12288x5120 1 := shapeCast S12288x5120 main_v31 shapeCasts_S12288x40x128_S12288x5120
  (main_v28, main_v29, main_v32, main_v21)

def fn {F : FTy → Type} [FloatOps F] (main_arg0 : FVec F S6x2048x5120 .bf16) (main_arg1 : FVec F S576x5120 .fp8e4m3) (main_arg2 : FVec F S5x40 .f32) (main_arg3 : FVec F S512 .bf16) (main_arg4 : IVec S6x2048 32) : IVec S12288x512 1 × IVec S12288x64 1 × IVec S12288x5120 1 × IVec S12288x40 1 :=
  let main_v0 : FVec F S12288x40x128 .bf16 := shapeCast S12288x40x128 main_arg0 shapeCasts_S6x2048x5120_S12288x40x128
  let main_v1 : FVec F S12288x40x128 .bf16 := Host.absf main_v0
  let main_cst : FVec F S_ .bf16 := constant S_ .bf16 0xFF80#16
  let main_v2 : FVec F S12288x40 .bf16 := (fun x v => Host.reduce FloatOps.maximumf x v reducesTo_S12288x40x128_S12288x40_d2 h_S_) main_v1 main_cst
  let main_v3 : FVec F S12288x40 .f32 := (extf .f32 · bitsLt_bf16_f32) main_v2
  let main_cst_0 : FVec F S_ .f32 := constant S_ .f32 0x3F000000#32
  let main_v4 : FVec F S12288x40 .f32 := broadcastInDim S12288x40 ![] bcast_S_S12288x40 main_cst_0
  let main_v5 : FVec F S12288x40 .f32 := mulf main_v3 main_v4
  let main_cst_1 : FVec F S_ .f32 := constant S_ .f32 0x7F600000#32
  let main_v6 : FVec F S12288x40 .f32 := broadcastInDim S12288x40 ![] bcast_S_S12288x40 main_cst_1
  let main_v7 : IVec S12288x40 1 := cmpf .ole main_v5 main_v6
  let main_cst_2 : FVec F S_ .f32 := constant S_ .f32 0x04600000#32
  let main_v8 : FVec F S12288x40 .f32 := broadcastInDim S12288x40 ![] bcast_S_S12288x40 main_cst_2
  let main_v9 : IVec S12288x40 1 := cmpf .oge main_v3 main_v8
  let main_cst_3 : FVec F S_ .f32 := constant S_ .f32 0x00000000#32
  let main_v10 : FVec F S12288x40 .f32 := broadcastInDim S12288x40 ![] bcast_S_S12288x40 main_cst_3
  let main_v11 : IVec S12288x40 1 := cmpf .oeq main_v3 main_v10
  let main_cst_4 : FVec F S_ .f32 := constant S_ .f32 0x7F600000#32
  let main_v12 : FVec F S12288x40 .f32 := broadcastInDim S12288x40 ![] bcast_S_S12288x40 main_cst_4
  let main_v13 : IVec S12288x40 1 := cmpf .olt main_v5 main_v12
  let main_v14 : IVec S12288x40 1 := andi main_v9 main_v13
  let main_v15 : IVec S12288x40 1 := ori main_v11 main_v14
  let main_cst_5 : FVec F S_ .f32 := constant S_ .f32 0x00000000#32
  let main_v16 : FVec F S12288x40 .f32 := broadcastInDim S12288x40 ![] bcast_S_S12288x40 main_cst_5
  fn_part1 (F := F) main_arg4 main_v3 main_v7 main_v9 main_v15 main_v16
-- ==== Kernel.lean ====
abbrev S6x2048x5120 : Shape := ⟨3, ![6, 2048, 5120]⟩
abbrev S576x5120 : Shape := ⟨2, ![576, 5120]⟩
abbrev S5x40 : Shape := ⟨2, ![5, 40]⟩
abbrev S512 : Shape := ⟨1, ![512]⟩
abbrev S6x2048 : Shape := ⟨2, ![6, 2048]⟩
abbrev S32 : Shape := ⟨1, ![32]⟩
abbrev S32x128 : Shape := ⟨2, ![32, 128]⟩
abbrev S12288x5120 : Shape := ⟨2, ![12288, 5120]⟩
abbrev S1x512 : Shape := ⟨2, ![1, 512]⟩
abbrev S12288x512 : Shape := ⟨2, ![12288, 512]⟩
abbrev S12288x64 : Shape := ⟨2, ![12288, 64]⟩
abbrev S12288x40 : Shape := ⟨2, ![12288, 40]⟩
abbrev S512x5120 : Shape := ⟨2, ![512, 5120]⟩
abbrev S512x512 : Shape := ⟨2, ![512, 512]⟩
abbrev S512x64 : Shape := ⟨2, ![512, 64]⟩
abbrev S512x40 : Shape := ⟨2, ![512, 40]⟩
abbrev S1x1 : Shape := ⟨2, ![1, 1]⟩
abbrev S128x128 : Shape := ⟨2, ![128, 128]⟩
abbrev S64x128 : Shape := ⟨2, ![64, 128]⟩
abbrev S1x256 : Shape := ⟨2, ![1, 256]⟩
abbrev S512x128 : Shape := ⟨2, ![512, 128]⟩
abbrev S512x1 : Shape := ⟨2, ![512, 1]⟩
abbrev S512x256 : Shape := ⟨2, ![512, 256]⟩
abbrev S576x512 : Shape := ⟨2, ![576, 512]⟩
abbrev S32x1 : Shape := ⟨2, ![32, 1]⟩
abbrev S32x512 : Shape := ⟨2, ![32, 512]⟩
abbrev S64x512 : Shape := ⟨2, ![64, 512]⟩

abbrev nBuf : Space → Nat
  | .hbm => 13
  | .vmem => 16
  | .smem => 1
  | _ => 0

abbrev bufTy : (tb : Table) → Fin (tcTables nBuf tb) → BufTy
  | .hbm, ⟨0, _⟩ => ⟨S6x2048x5120, .bf16⟩
  | .hbm, ⟨1, _⟩ => ⟨S576x5120, .fp8e4m3⟩
  | .hbm, ⟨2, _⟩ => ⟨S5x40, .f32⟩
  | .hbm, ⟨3, _⟩ => ⟨S512, .bf16⟩
  | .hbm, ⟨4, _⟩ => ⟨S6x2048, .i32⟩
  | .hbm, ⟨5, _⟩ => ⟨S32, .f32⟩
  | .hbm, ⟨6, _⟩ => ⟨S32x128, .f32⟩
  | .hbm, ⟨7, _⟩ => ⟨S12288x5120, .bf16⟩
  | .hbm, ⟨8, _⟩ => ⟨S1x512, .bf16⟩
  | .hbm, ⟨9, _⟩ => ⟨S12288x512, .bf16⟩
  | .hbm, ⟨10, _⟩ => ⟨S12288x64, .bf16⟩
  | .hbm, ⟨11, _⟩ => ⟨S12288x5120, .fp8e4m3⟩
  | .hbm, ⟨12, _⟩ => ⟨S12288x40, .f32⟩
  | .local _ .vmem, ⟨0, _⟩ => ⟨S512x5120, .bf16⟩
  | .local _ .vmem, ⟨1, _⟩ => ⟨S512x5120, .bf16⟩
  | .local _ .vmem, ⟨2, _⟩ => ⟨S576x5120, .fp8e4m3⟩
  | .local _ .vmem, ⟨3, _⟩ => ⟨S1x512, .bf16⟩
  | .local _ .vmem, ⟨4, _⟩ => ⟨S6x2048, .i32⟩
  | .local _ .vmem, ⟨5, _⟩ => ⟨S32x128, .f32⟩
  | .local _ .vmem, ⟨6, _⟩ => ⟨S512x512, .bf16⟩
  | .local _ .vmem, ⟨7, _⟩ => ⟨S512x512, .bf16⟩
  | .local _ .vmem, ⟨8, _⟩ => ⟨S512x64, .bf16⟩
  | .local _ .vmem, ⟨9, _⟩ => ⟨S512x64, .bf16⟩
  | .local _ .vmem, ⟨10, _⟩ => ⟨S512x5120, .fp8e4m3⟩
  | .local _ .vmem, ⟨11, _⟩ => ⟨S512x5120, .fp8e4m3⟩
  | .local _ .vmem, ⟨12, _⟩ => ⟨S512x40, .f32⟩
  | .local _ .vmem, ⟨13, _⟩ => ⟨S512x40, .f32⟩
  | .local _ .vmem, ⟨14, _⟩ => ⟨S576x5120, .bf16⟩
  | .local _ .vmem, ⟨15, _⟩ => ⟨S512x5120, .bf16⟩
  | .local _ .smem, ⟨0, _⟩ => ⟨S5x40, .f32⟩
  | _, _ => ⟨S6x2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [BitOps F]

abbrev grid0 : Pipeline.Grid := ⟨2, ![6, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_567 : BitVec 32 := 0#32
  let c40_i32 : BitVec 32 := 40#32
  let v1903 : BitVec 32 := Scalar.addi c0_i32_567 c40_i32
  let c1_i32_568 : BitVec 32 := 1#32
  ⟨c0_i32_567, v1903, c1_i32_568⟩
def k0_mult1 (k0_t1 : Fin k0_t1_loop.trips) : BitVec 32 :=
  let c0_i32_567 : BitVec 32 := 0#32
  let c1_i32_568 : BitVec 32 := 1#32
  let arg14 : BitVec 32 := Scf.iv c0_i32_567 c1_i32_568 k0_t1
  let c128_i32 : BitVec 32 := 128#32
  let v1904 : BitVec 32 := Scalar.muli arg14 c128_i32
  v1904
def k0_off1 (k0_t1 : Fin k0_t1_loop.trips) : Fin 2 → Nat :=
  let c0_570 : Index := 0#32
  let c0_i32_567 : BitVec 32 := 0#32
  let c1_i32_568 : BitVec 32 := 1#32
  let arg14 : BitVec 32 := Scf.iv c0_i32_567 c1_i32_568 k0_t1
  let v1906 : Index := Scalar.indexCast arg14
  ![0, v1906.toNat]
def k0_off2 (k0_t1 : Fin k0_t1_loop.trips) : Fin 2 → Nat :=
  let c0_571 : Index := 0#32
  let c0_i32_567 : BitVec 32 := 0#32
  let c1_i32_568 : BitVec 32 := 1#32
  let arg14 : BitVec 32 := Scf.iv c0_i32_567 c1_i32_568 k0_t1
  let c128_i32 : BitVec 32 := 128#32
  let v1904 : BitVec 32 := Scalar.muli arg14 c128_i32
  let v1905 : BitVec 32 := v1904
  let v1910 : Index := Scalar.indexCast v1905
  ![0, v1910.toNat]
def k0_off3 (k0_t1 : Fin k0_t1_loop.trips) : Fin 2 → Nat :=
  let c1 : Index := 1#32
  let c0_i32_567 : BitVec 32 := 0#32
  let c1_i32_568 : BitVec 32 := 1#32
  let arg14 : BitVec 32 := Scf.iv c0_i32_567 c1_i32_568 k0_t1
  let v1918 : Index := Scalar.indexCast arg14
  ![1, v1918.toNat]
def k0_off4 (k0_t1 : Fin k0_t1_loop.trips) : Fin 2 → Nat :=
  let c128_573 : Index := 128#32
  let c0_i32_567 : BitVec 32 := 0#32
  let c1_i32_568 : BitVec 32 := 1#32
  let arg14 : BitVec 32 := Scf.iv c0_i32_567 c1_i32_568 k0_t1
  let c128_i32 : BitVec 32 := 128#32
  let v1904 : BitVec 32 := Scalar.muli arg14 c128_i32
  let v1905 : BitVec 32 := v1904
  let v1922 : Index := Scalar.indexCast v1905
  ![128, v1922.toNat]
def k0_off5 (k0_t1 : Fin k0_t1_loop.trips) : Fin 2 → Nat :=
  let c2 : Index := 2#32
  let c0_i32_567 : BitVec 32 := 0#32
  let c1_i32_568 : BitVec 32 := 1#32
  let arg14 : BitVec 32 := Scf.iv c0_i32_567 c1_i32_568 k0_t1
  let v1930 : Index := Scalar.indexCast arg14
  ![2, v1930.toNat]
def k0_off6 (k0_t1 : Fin k0_t1_loop.trips) : Fin 2 → Nat :=
  let c256_575 : Index := 256#32
  let c0_i32_567 : BitVec 32 := 0#32
  let c1_i32_568 : BitVec 32 := 1#32
  let arg14 : BitVec 32 := Scf.iv c0_i32_567 c1_i32_568 k0_t1
  let c128_i32 : BitVec 32 := 128#32
  let v1904 : BitVec 32 := Scalar.muli arg14 c128_i32
  let v1905 : BitVec 32 := v1904
  let v1934 : Index := Scalar.indexCast v1905
  ![256, v1934.toNat]
def k0_off7 (k0_t1 : Fin k0_t1_loop.trips) : Fin 2 → Nat :=
  let c3 : Index := 3#32
  let c0_i32_567 : BitVec 32 := 0#32
  let c1_i32_568 : BitVec 32 := 1#32
  let arg14 : BitVec 32 := Scf.iv c0_i32_567 c1_i32_568 k0_t1
  let v1942 : Index := Scalar.indexCast arg14
  ![3, v1942.toNat]
def k0_off8 (k0_t1 : Fin k0_t1_loop.trips) : Fin 2 → Nat :=
  let c384_577 : Index := 384#32
  let c0_i32_567 : BitVec 32 := 0#32
  let c1_i32_568 : BitVec 32 := 1#32
  let arg14 : BitVec 32 := Scf.iv c0_i32_567 c1_i32_568 k0_t1
  let c128_i32 : BitVec 32 := 128#32
  let v1904 : BitVec 32 := Scalar.muli arg14 c128_i32
  let v1905 : BitVec 32 := v1904
  let v1946 : Index := Scalar.indexCast v1905
  ![384, v1946.toNat]
def k0_off9 (k0_t1 : Fin k0_t1_loop.trips) : Fin 2 → Nat :=
  let c4 : Index := 4#32
  let c0_i32_567 : BitVec 32 := 0#32
  let c1_i32_568 : BitVec 32 := 1#32
  let arg14 : BitVec 32 := Scf.iv c0_i32_567 c1_i32_568 k0_t1
  let v1954 : Index := Scalar.indexCast arg14
  ![4, v1954.toNat]
def k0_off10 (k0_t1 : Fin k0_t1_loop.trips) : Fin 2 → Nat :=
  let c512_579 : Index := 512#32
  let c0_i32_567 : BitVec 32 := 0#32
  let c1_i32_568 : BitVec 32 := 1#32
  let arg14 : BitVec 32 := Scf.iv c0_i32_567 c1_i32_568 k0_t1
  let c128_i32 : BitVec 32 := 128#32
  let v1904 : BitVec 32 := Scalar.muli arg14 c128_i32
  let v1905 : BitVec 32 := v1904
  let v1958 : Index := Scalar.indexCast v1905
  ![512, v1958.toNat]
def k0_off11 (k0_t1 : Fin k0_t1_loop.trips) : Fin 2 → Nat :=
  let c512_582 : Index := 512#32
  let c0_i32_567 : BitVec 32 := 0#32
  let c1_i32_568 : BitVec 32 := 1#32
  let arg14 : BitVec 32 := Scf.iv c0_i32_567 c1_i32_568 k0_t1
  let c128_i32 : BitVec 32 := 128#32
  let v1904 : BitVec 32 := Scalar.muli arg14 c128_i32
  let v1905 : BitVec 32 := v1904
  let v1971 : Index := Scalar.indexCast v1905
  ![512, v1971.toNat]
def k0_off12 (k0_t1 : Fin k0_t1_loop.trips) : Fin 2 → Nat :=
  let c544 : Index := 544#32
  let c0_i32_567 : BitVec 32 := 0#32
  let c1_i32_568 : BitVec 32 := 1#32
  let arg14 : BitVec 32 := Scf.iv c0_i32_567 c1_i32_568 k0_t1
  let c128_i32 : BitVec 32 := 128#32
  let v1904 : BitVec 32 := Scalar.muli arg14 c128_i32
  let v1905 : BitVec 32 := v1904
  let v1975 : Index := Scalar.indexCast v1905
  ![544, v1975.toNat]
def k0_mult2 (i : grid0.Coords) : BitVec 32 :=
  let arg1 : BitVec 32 := BitVec.ofNat 32 (i 1).val
  let c512_i32 : BitVec 32 := 512#32
  let v1808 : BitVec 32 := Scalar.muli arg1 c512_i32
  v1808
def k0_off13 (i : grid0.Coords) : Fin 2 → Nat :=
  let arg0 : BitVec 32 := BitVec.ofNat 32 (i 0).val
  let v1810 : Index := Scalar.indexCast arg0
  let arg1 : BitVec 32 := BitVec.ofNat 32 (i 1).val
  let c512_i32 : BitVec 32 := 512#32
  let v1808 : BitVec 32 := Scalar.muli arg1 c512_i32
  let v1809 : BitVec 32 := v1808
  let v1811 : Index := Scalar.indexCast v1809
  ![v1810.toNat, v1811.toNat]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S576x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S5x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S6x2048 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x5120 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x40 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F]
-- ==== ReferenceIdeal.lean ====
abbrev S6x2048x5120 : Shape := ⟨3, ![6, 2048, 5120]⟩
abbrev S576x5120 : Shape := ⟨2, ![576, 5120]⟩
abbrev S5x40 : Shape := ⟨2, ![5, 40]⟩
abbrev S512 : Shape := ⟨1, ![512]⟩
abbrev S6x2048 : Shape := ⟨2, ![6, 2048]⟩
abbrev S32 : Shape := ⟨1, ![32]⟩
abbrev S_ : Shape := ⟨0, ![]⟩
abbrev S12288x5120 : Shape := ⟨2, ![12288, 5120]⟩
abbrev S1x512 : Shape := ⟨2, ![1, 512]⟩
abbrev S12288x1 : Shape := ⟨2, ![12288, 1]⟩
abbrev S1x32 : Shape := ⟨2, ![1, 32]⟩
abbrev S12288x512 : Shape := ⟨2, ![12288, 512]⟩
abbrev S12288x64 : Shape := ⟨2, ![12288, 64]⟩
abbrev S12288x40 : Shape := ⟨2, ![12288, 40]⟩
abbrev S12288x40x128 : Shape := ⟨3, ![12288, 40, 128]⟩
abbrev S12288x40x1 : Shape := ⟨3, ![12288, 40, 1]⟩
abbrev S5x1x40 : Shape := ⟨3, ![5, 1, 40]⟩
abbrev S5x128x40 : Shape := ⟨3, ![5, 128, 40]⟩
abbrev S640x40 : Shape := ⟨2, ![640, 40]⟩
abbrev S576x40 : Shape := ⟨2, ![576, 40]⟩
abbrev S576x40x128 : Shape := ⟨3, ![576, 40, 128]⟩
abbrev S576x40x1 : Shape := ⟨3, ![576, 40, 1]⟩
abbrev S12288x576 : Shape := ⟨2, ![12288, 576]⟩
abbrev S12288 : Shape := ⟨1, ![12288]⟩
abbrev S12288x32x2 : Shape := ⟨3, ![12288, 32, 2]⟩
abbrev S12288x32x1 : Shape := ⟨3, ![12288, 32, 1]⟩
abbrev S12288x32 : Shape := ⟨2, ![12288, 32]⟩

abbrev nBuf : Space → Nat
  | .hbm => 27
  | .vmem => 10
  | .smem => 0
  | _ => 0

abbrev bufTy : (tb : Table) → Fin (tcTables nBuf tb) → BufTy
  | .hbm, ⟨0, _⟩ => ⟨S6x2048x5120, .bf16⟩
  | .hbm, ⟨1, _⟩ => ⟨S576x5120, .fp8e4m3⟩
  | .hbm, ⟨2, _⟩ => ⟨S5x40, .f32⟩
  | .hbm, ⟨3, _⟩ => ⟨S512, .bf16⟩
  | .hbm, ⟨4, _⟩ => ⟨S6x2048, .i32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S12288x5120, .bf16⟩
  | .hbm, ⟨20, _⟩ => ⟨S1x512, .bf16⟩
  | .hbm, ⟨21, _⟩ => ⟨S12288x1, .i32⟩
  | .hbm, ⟨22, _⟩ => ⟨S1x32, .f32⟩
  | .hbm, ⟨23, _⟩ => ⟨S12288x512, .bf16⟩
  | .hbm, ⟨24, _⟩ => ⟨S12288x64, .bf16⟩
  | .hbm, ⟨25, _⟩ => ⟨S12288x5120, .fp8e4m3⟩
  | .hbm, ⟨26, _⟩ => ⟨S12288x40, .f32⟩
  | .local _ .vmem, ⟨0, _⟩ => ⟨S12288x5120, .bf16⟩
  | .local _ .vmem, ⟨1, _⟩ => ⟨S576x5120, .fp8e4m3⟩
  | .local _ .vmem, ⟨2, _⟩ => ⟨S5x40, .f32⟩
  | .local _ .vmem, ⟨3, _⟩ => ⟨S1x512, .bf16⟩
  | .local _ .vmem, ⟨4, _⟩ => ⟨S12288x1, .i32⟩
  | .local _ .vmem, ⟨5, _⟩ => ⟨S1x32, .f32⟩
  | .local _ .vmem, ⟨6, _⟩ => ⟨S12288x512, .bf16⟩
  | .local _ .vmem, ⟨7, _⟩ => ⟨S12288x64, .bf16⟩
  | .local _ .vmem, ⟨8, _⟩ => ⟨S12288x5120, .fp8e4m3⟩
  | .local _ .vmem, ⟨9, _⟩ => ⟨S12288x40, .f32⟩
  | _, _ => ⟨S6x2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S12288x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S576x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12288x5120 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12288x40 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.PRun.lean ====
module

public import proofs.«01_k».proof.Proof.Gen.Kernel.Frame
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The body's one condition: the first point of the grid. -/
abbrev cond0_0 (i : grid0.Coords) : Prop := k0_cond1 i = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 4 % 6 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 24 = 0)

/-! ## The body on any staging memrefs -/

/-- Each window's current staging memref at point `t`, and its wholeness. -/
abbrev ms0_0 (t : Fin cfg0.N) : Memref sig .tc .vmem S512x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S576x5120 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S5x40 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S6x2048 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x64 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x5120 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x40 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S576x5120 .bf16 := Memref.whole cc0_scratch0
abbrev scM0_1 : Memref sig .tc .vmem S512x5120 .bf16 := Memref.whole cc0_scratch1

/-- The pipeline's invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: checking it walks past the default budget)
set_option maxHeartbeats 1840000 in
/-- One call of the body at the first point of the grid, where the weights are rebuilt: on whole staging memrefs, the
    inputs' at their contents and the outputs' at anything, it runs and hands back the inputs' as they were, the outputs'
    and the scratch at some contents. -/
theorem body_first (c : Dev nD) (i : grid0.Coords) (arg2 : Memref sig .tc .vmem S512x5120 .bf16) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .bf16) (harg5 : arg5.IsWhole) (arg6 : Memref sig .tc .vmem S6x2048 .i32) (harg6 : arg6.IsWhole) (arg7 : Memref sig .tc .vmem S32x128 .f32) (harg7 : arg7.IsWhole) (arg8 : Memref sig .tc .vmem S512x512 .bf16) (harg8 : arg8.IsWhole) (arg9 : Memref sig .tc .vmem S512x64 .bf16) (harg9 : arg9.IsWhole) (arg10 : Memref sig .tc .vmem S512x5120 .fp8e4m3) (harg10 : arg10.IsWhole) (arg11 : Memref sig .tc .vmem S512x40 .f32) (harg11 : arg11.IsWhole) (arg12 : Memref sig .tc .vmem S576x5120 .bf16) (harg12 : arg12.IsWhole) (arg13 : Memref sig .tc .vmem S512x5120 .bf16) (harg13 : arg13.IsWhole) (hc0 : cond0_0 i)
    (x0 : Vec F S512x5120 .bf16) (x1 : Vec F S576x5120 .fp8e4m3) (x2 : Vec F S5x40 .f32) (x3 : Vec F S1x512 .bf16) (x4 : Vec F S6x2048 .i32) (x5 : Vec F S32x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_mla_down i arg2 harg2 arg3 harg3 arg4 harg4 arg5 harg5 arg6 harg6 arg7 harg7 arg8 harg8 arg9 harg9 arg10 harg10 arg11 harg11 arg12 harg12 arg13 harg13) K := by
    intro E K
    simp only [cc0_mla_down_eq_skeleton]; unfold cc0_mla_down_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    iexists _, _; isplitr; swap; · iexact HS1
    ipureintro; rfl

-- (the run's proof term is large: checking it walks past the default budget)
set_option maxHeartbeats 1740000 in
/-- The same at every later point, where the rebuilt weights are already in scratch. -/
theorem body_later (c : Dev nD) (i : grid0.Coords) (arg2 : Memref sig .tc .vmem S512x5120 .bf16) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .bf16) (harg5 : arg5.IsWhole) (arg6 : Memref sig .tc .vmem S6x2048 .i32) (harg6 : arg6.IsWhole) (arg7 : Memref sig .tc .vmem S32x128 .f32) (harg7 : arg7.IsWhole) (arg8 : Memref sig .tc .vmem S512x512 .bf16) (harg8 : arg8.IsWhole) (arg9 : Memref sig .tc .vmem S512x64 .bf16) (harg9 : arg9.IsWhole) (arg10 : Memref sig .tc .vmem S512x5120 .fp8e4m3) (harg10 : arg10.IsWhole) (arg11 : Memref sig .tc .vmem S512x40 .f32) (harg11 : arg11.IsWhole) (arg12 : Memref sig .tc .vmem S576x5120 .bf16) (harg12 : arg12.IsWhole) (arg13 : Memref sig .tc .vmem S512x5120 .bf16) (harg13 : arg13.IsWhole) (hc0 : ¬cond0_0 i)
    (x0 : Vec F S512x5120 .bf16) (x1 : Vec F S576x5120 .fp8e4m3) (x2 : Vec F S5x40 .f32) (x3 : Vec F S1x512 .bf16) (x4 : Vec F S6x2048 .i32) (x5 : Vec F S32x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_mla_down i arg2 harg2 arg3 harg3 arg4 harg4 arg5 harg5 arg6 harg6 arg7 harg7 arg8 harg8 arg9 harg9 arg10 harg10 arg11 harg11 arg12 harg12 arg13 harg13) K := by
    intro E K
    simp only [cc0_mla_down_eq_skeleton]; unfold cc0_mla_down_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    iexists _, _; isplitr; swap; · iexact HS1
    ipureintro; rfl

end Cert.Kernel.Run

end
-- ==== Proof.PFrame.lean ====
module

public import proofs.«01_k».proof.Proof.PRun
public import Idealize.ShloMosaic.Lib.Claim

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows (6, 7, 8, 9), of whose contents the frame says nothing. -/
def forgets0 : Fin 10 → Bool := fun w => w.val == 6 || w.val == 7 || w.val == 8 || w.val == 9

/-- The proof data of the one pipeline on core `c`: the arrays as the kernel finds them; after the body at point `t` each
    input's buffer at its block, and the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are those that the kernel finds. -/
theorem A_eq (c : Dev nD) (w : Fin cfg0.W) : (dats m 0 c).A w = V m c (Pipeline.arrRef spec0 w) := by
  dsimp only [dats]

/-- What the body leaves in each input's buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 2400000 in
/-- The body at any point: the first one or a later one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  have hN : t.val < 24 := lt_of_lt_of_eq t.isLt (show cfg0.N = 24 from N_0)
  by_cases h0 : t.val % 24 = 0
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((body_first c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((body_later c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- The frame from any run that leaves the pipeline's input arrays, and the arrays that no window stages, as they were. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      (Pipeline.RDat.FramePost.arr_in h c 4 rfl).trans ((hA c 4).trans (V_main_arg4 m c))⟩) h

/-! ## The run and the frame -/

-- `θ_run_frame_forget`'s implicit arguments are found by unifying its conclusion with this one, which takes unfolding plain
-- definitions in a metavariable's type
set_option backward.isDefEq.respectTransparency.types false in
/-- The launch: the same, and every semaphore at zero at the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends with each input array of the pipeline unchanged; nothing is said of the outputs. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- Every run ends with the argument arrays as they were launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of_forget m ρ (fun c => (dats m 0 c).toRForget forgets0) (A_eq m) (run_main m ρ)

/-- The frame of the low-precision program: every run ends, with the argument arrays as they were launched and every
    semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Run

end
-- ==== Proof.KRun.lean ====
module

public import proofs.«01_k».proof.Proof.Gen.KernelIdeal.Frame
public import proofs.«01_k».proof.Proof.Gen.KernelIdeal.Loops
public import Idealize.ShloMosaic.Lib.Pipeline.Value

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition: the first point of the grid. -/
abbrev first (i : grid0.Coords) : Prop := k0_cond1 i = 1#1

/-! What one call of the kernel's body leaves in its buffers, as functions of the blocks it reads. -/

/-- The block of 128 features number `g` of a tile's tokens. -/
theorem inb_col (g : ℕ) (h : g < 40) : ∀ a, (![0, 128 * g] : Fin 2 → ℕ) a + S512x128.size a ≤ S512x5120.size a := by
  intro a; fin_cases a
  · show 0 + 512 ≤ 512; omega
  · show 128 * g + 128 ≤ 5120; omega
abbrev colRect (g : ℕ) (h : g < 40) : Rect S512x5120 := Rect.unit (s := S512x5120) ![0, 128 * g] S512x128.size (inb_col g h)

/-- The exponent fields of a block's scales, one per token. -/
def qbits (v : Vec F S512x128 .bf16) : IVec S512x1 32 := k0_pay14 v
/-- The codes of a block. -/
def qcodes (v : Vec F S512x128 .bf16) : Vec F S512x128 .fp8e4m3 := k0_pay18 (k0_pay17 v)
/-- The block rebuilt from its codes and scales. -/
def qdq (v : Vec F S512x128 .bf16) : Vec F S512x128 .bf16 := k0_pay19 (k0_pay16 v) (k0_pay17 v)

/-- A value for each of the first `n` blocks, stored block by block (the last store first). -/
def tiles {e : EltTy} (P : (g : ℕ) → g < 40 → Vec F S512x128 e) : (n : ℕ) → n ≤ 40 → List (View.Piece (Elt F) S512x5120 e)
  | 0, _ => []
  | n + 1, h => ⟨colRect n h, P n h⟩ :: tiles P n (Nat.le_of_succ_le h)

/-- The fields of the first `n` blocks gathered by lane. -/
def fields (x0 : Vec F S512x5120 .bf16) : (n : ℕ) → n ≤ 40 → IVec S512x128 32
  | 0, _ => k0_pay12
  | n + 1, h => select (cmpi .eq (iota .tc S512x128 32 [1] iota_S512x128_d1_w32) (broadcast S512x128 (BitVec.ofNat 32 n)))
      (broadcastTo S512x128 (shapeCast S512x1 (qbits (View.ld x0 (colRect n h))) shapeCasts_S512x1_S512x1) broadcasts_S512x1_S512x128)
      (fields x0 n (Nat.le_of_succ_le h))

def codesTiles (x0 : Vec F S512x5120 .bf16) := tiles (fun g h => qcodes (View.ld x0 (colRect g h))) 40 le_rfl
def dqTiles (x0 : Vec F S512x5120 .bf16) := tiles (fun g h => qdq (View.ld x0 (colRect g h))) 40 le_rfl

/-- The tile rebuilt from codes and scales. -/
def xdq (x0 : Vec F S512x5120 .bf16) : Vec F S512x5120 .bf16 := View.canon (dqTiles x0)
/-- The codes of the tile. -/
def out8 (x0 : Vec F S512x5120 .bf16) : Vec F S512x5120 .fp8e4m3 := View.canon (codesTiles x0)
/-- The scales of the tile. -/
def out9 (x0 : Vec F S512x5120 .bf16) : Vec F S512x40 .f32 :=
  k0_pay298 (iota .tc S512x128 32 [1] iota_S512x128_d1_w32) (fields x0 39 (by decide)) (qbits (View.ld x0 (colRect 39 (by decide)))) 39#32
/-- The normalised latent part of the tile. -/
def out6 (x0 : Vec F S512x5120 .bf16) (x3 : Vec F S1x512 .bf16) (w : Vec F S576x5120 .bf16) : Vec F S512x512 .bf16 :=
  k0_pay300 w (xdq x0) x3
/-- The rotated part from the tile's positions `p` and the frequencies `f`. -/
def rot (y : FVec F S576x512 .f32) (p : Vec F S1x512 .i32) (f : Vec F S32x1 .f32) : Vec F S512x64 .bf16 :=
  k0_pay1 y (k0_pay304 p f)
    (k0_pay312 (k0_pay304 p f) (k0_pay306 p f) (k0_pay307 p f) (k0_pay308 p f) (k0_pay309 p f))
    (k0_pay313 (k0_pay304 p f) (k0_pay306 p f) (k0_pay307 p f) (k0_pay308 p f) (k0_pay309 p f))
    (k0_pay314 (k0_pay304 p f)) 2#32
def out7 (i : grid0.Coords) (x0 : Vec F S512x5120 .bf16) (x4 : Vec F S6x2048 .i32) (x5 : Vec F S32x128 .f32) (w : Vec F S576x5120 .bf16) :
    Vec F S512x64 .bf16 :=
  rot (k0_pay299 w (xdq x0)) (View.ld x4 (Rect.unit (s := S6x2048) (k0_off13 i) S1x512.size (k0_off13_inb i)))
    (View.ld x5 (Rect.unit (s := S32x128) ![0, 0] S32x1.size inb_S32x128_S32x1_0_0))

theorem hz : (![0, 0] : Fin 2 → Nat) = fun _ => 0 := funext fun a => by fin_cases a <;> rfl

theorem codes_cover (x0 : Vec F S512x5120 .bf16) : ∀ y, ∃ p ∈ codesTiles x0, y ∈ p.1.set :=
  View.cover_of_tiled _ S512x128.size (by rfl)

/-- The tile's rebuilt values as the projection reads them back. -/
theorem xdq_read (v : View sig .tc .vmem S512x5120 .bf16) (x0 : Vec F S512x5120 .bf16) :
    v.readCov (dqTiles x0) (Rect.unit ![0, 0] S512x5120.size inb_S512x5120_S512x5120_0_0).toLoadRect = xdq x0 := by
  rw [View.readCov_eq_canon']
  exact View.ld_unit_zero (S := S512x5120) hz _ _

theorem w_read (v : View sig .tc .vmem S576x5120 .bf16) (f : v.ty.Contents (Elt F)) :
    View.readAt (Elt F) v (Rect.unit ![0, 0] S576x5120.size inb_S576x5120_S576x5120_0_0).toLoadRect f = View.read (Elt F) v f :=
  View.ld_unit_zero (S := S576x5120) hz _ _

theorem out6_eq (v12 : View sig .tc .vmem S576x5120 .bf16) (v13 : View sig .tc .vmem S512x5120 .bf16) (v5 : View sig .tc .vmem S1x512 .bf16)
    (x0 : Vec F S512x5120 .bf16) (fw : v12.ty.Contents (Elt F)) (f3 : v5.ty.Contents (Elt F)) :
    k0_pay300 (View.readAt (Elt F) v12 (Rect.unit ![0, 0] S576x5120.size inb_S576x5120_S576x5120_0_0).toLoadRect fw)
      (v13.readCov (dqTiles x0) (Rect.unit ![0, 0] S512x5120.size inb_S512x5120_S512x5120_0_0).toLoadRect)
      (View.readAt (Elt F) v5 (Rect.unit ![0, 0] S1x512.size inb_S1x512_S1x512_0_0).toLoadRect f3)
      = out6 x0 (View.read (Elt F) v5 f3) (View.read (Elt F) v12 fw) := by
  rw [xdq_read, w_read, show View.readAt (Elt F) v5 (Rect.unit ![0, 0] S1x512.size inb_S1x512_S1x512_0_0).toLoadRect f3 = View.read (Elt F) v5 f3
    from View.ld_unit_zero (S := S1x512) hz _ _]
  rfl

theorem out7_eq (v12 : View sig .tc .vmem S576x5120 .bf16) (v13 : View sig .tc .vmem S512x5120 .bf16) (i : grid0.Coords)
    (x0 : Vec F S512x5120 .bf16) (x4 : Vec F S6x2048 .i32) (x5 : Vec F S32x128 .f32) (fw : v12.ty.Contents (Elt F)) :
    rot (k0_pay299 (View.readAt (Elt F) v12 (Rect.unit ![0, 0] S576x5120.size inb_S576x5120_S576x5120_0_0).toLoadRect fw)
      (v13.readCov (dqTiles x0) (Rect.unit ![0, 0] S512x5120.size inb_S512x5120_S512x5120_0_0).toLoadRect))
      (View.ld x4 (Rect.unit (s := S6x2048) (k0_off13 i) S1x512.size (k0_off13_inb i)))
      (View.ld x5 (Rect.unit (s := S32x128) ![0, 0] S32x1.size inb_S32x128_S32x1_0_0))
      = out7 i x0 x4 x5 (View.read (Elt F) v12 fw) := by
  rw [xdq_read, w_read]
  rfl

/-! The weights the first call of the body rebuilds: what each trip of its loop stores. -/

/-! The loop counter is the block of 128 features. -/

theorem off1_eq : ∀ k : Fin k0_t1_loop.trips, k0_off1 k = ![0, k.val] := by decide +kernel
theorem off3_eq : ∀ k : Fin k0_t1_loop.trips, k0_off3 k = ![1, k.val] := by decide +kernel
theorem off5_eq : ∀ k : Fin k0_t1_loop.trips, k0_off5 k = ![2, k.val] := by decide +kernel
theorem off7_eq : ∀ k : Fin k0_t1_loop.trips, k0_off7 k = ![3, k.val] := by decide +kernel
theorem off9_eq : ∀ k : Fin k0_t1_loop.trips, k0_off9 k = ![4, k.val] := by decide +kernel
theorem off2_eq : ∀ k : Fin k0_t1_loop.trips, k0_off2 k = ![0, 128 * k.val] := by decide +kernel
theorem off4_eq : ∀ k : Fin k0_t1_loop.trips, k0_off4 k = ![128, 128 * k.val] := by decide +kernel
theorem off6_eq : ∀ k : Fin k0_t1_loop.trips, k0_off6 k = ![256, 128 * k.val] := by decide +kernel
theorem off8_eq : ∀ k : Fin k0_t1_loop.trips, k0_off8 k = ![384, 128 * k.val] := by decide +kernel
theorem off10_eq : ∀ k : Fin k0_t1_loop.trips, k0_off10 k = ![512, 128 * k.val] := by decide +kernel
theorem off11_eq : ∀ k : Fin k0_t1_loop.trips, k0_off11 k = ![512, 128 * k.val] := by decide +kernel
theorem off12_eq : ∀ k : Fin k0_t1_loop.trips, k0_off12 k = ![544, 128 * k.val] := by decide +kernel
theorem pos1 : 0 < S1x1.numel := by rw [numel1_S1x1]; exact Nat.one_pos
theorem trips_eq : k0_t1_loop.trips = 40 := by decide +kernel
theorem inb1 (k : Fin k0_t1_loop.trips) : ∀ a, k0_off1 k a + S1x1.size a ≤ S5x40.size a := by
  have hk := k.isLt; simp only [trips_eq] at hk
  rw [off1_eq]; intro a; fin_cases a
  · show 0 + 1 ≤ 5; omega
  · show k.val + 1 ≤ 40; omega
theorem inb3 (k : Fin k0_t1_loop.trips) : ∀ a, k0_off3 k a + S1x1.size a ≤ S5x40.size a := by
  have hk := k.isLt; simp only [trips_eq] at hk
  rw [off3_eq]; intro a; fin_cases a
  · show 1 + 1 ≤ 5; omega
  · show k.val + 1 ≤ 40; omega
theorem inb5 (k : Fin k0_t1_loop.trips) : ∀ a, k0_off5 k a + S1x1.size a ≤ S5x40.size a := by
  have hk := k.isLt; simp only [trips_eq] at hk
  rw [off5_eq]; intro a; fin_cases a
  · show 2 + 1 ≤ 5; omega
  · show k.val + 1 ≤ 40; omega
theorem inb7 (k : Fin k0_t1_loop.trips) : ∀ a, k0_off7 k a + S1x1.size a ≤ S5x40.size a := by
  have hk := k.isLt; simp only [trips_eq] at hk
  rw [off7_eq]; intro a; fin_cases a
  · show 3 + 1 ≤ 5; omega
  · show k.val + 1 ≤ 40; omega
theorem inb9 (k : Fin k0_t1_loop.trips) : ∀ a, k0_off9 k a + S1x1.size a ≤ S5x40.size a := by
  have hk := k.isLt; simp only [trips_eq] at hk
  rw [off9_eq]; intro a; fin_cases a
  · show 4 + 1 ≤ 5; omega
  · show k.val + 1 ≤ 40; omega
theorem inb2 (k : Fin k0_t1_loop.trips) : ∀ a, k0_off2 k a + S128x128.size a ≤ S576x5120.size a := by
  have hk := k.isLt; simp only [trips_eq] at hk
  rw [off2_eq]; intro a; fin_cases a
  · show 0 + 128 ≤ 576; omega
  · show 128 * k.val + 128 ≤ 5120; omega
theorem inb4 (k : Fin k0_t1_loop.trips) : ∀ a, k0_off4 k a + S128x128.size a ≤ S576x5120.size a := by
  have hk := k.isLt; simp only [trips_eq] at hk
  rw [off4_eq]; intro a; fin_cases a
  · show 128 + 128 ≤ 576; omega
  · show 128 * k.val + 128 ≤ 5120; omega
theorem inb6 (k : Fin k0_t1_loop.trips) : ∀ a, k0_off6 k a + S128x128.size a ≤ S576x5120.size a := by
  have hk := k.isLt; simp only [trips_eq] at hk
  rw [off6_eq]; intro a; fin_cases a
  · show 256 + 128 ≤ 576; omega
  · show 128 * k.val + 128 ≤ 5120; omega
theorem inb8 (k : Fin k0_t1_loop.trips) : ∀ a, k0_off8 k a + S128x128.size a ≤ S576x5120.size a := by
  have hk := k.isLt; simp only [trips_eq] at hk
  rw [off8_eq]; intro a; fin_cases a
  · show 384 + 128 ≤ 576; omega
  · show 128 * k.val + 128 ≤ 5120; omega
theorem inb10 (k : Fin k0_t1_loop.trips) : ∀ a, k0_off10 k a + S64x128.size a ≤ S576x5120.size a := by
  have hk := k.isLt; simp only [trips_eq] at hk
  rw [off10_eq]; intro a; fin_cases a
  · show 512 + 64 ≤ 576; omega
  · show 128 * k.val + 128 ≤ 5120; omega
theorem inb11 (k : Fin k0_t1_loop.trips) : ∀ a, k0_off11 k a + S32x128.size a ≤ S576x5120.size a := by
  have hk := k.isLt; simp only [trips_eq] at hk
  rw [off11_eq]; intro a; fin_cases a
  · show 512 + 32 ≤ 576; omega
  · show 128 * k.val + 128 ≤ 5120; omega
theorem inb12 (k : Fin k0_t1_loop.trips) : ∀ a, k0_off12 k a + S32x128.size a ≤ S576x5120.size a := by
  have hk := k.isLt; simp only [trips_eq] at hk
  rw [off12_eq]; intro a; fin_cases a
  · show 544 + 32 ≤ 576; omega
  · show 128 * k.val + 128 ≤ 5120; omega

/-- The stores of trip `k`, the last first: the rope rows of each parity, then the four blocks of latent rows. -/
def wtrip (x1 : Vec F S576x5120 .fp8e4m3) (x2 : Vec F S5x40 .f32) (k : Fin k0_t1_loop.trips) : List (View.Piece (Elt F) S576x5120 .bf16) :=
  [⟨Rect.unit (s := S576x5120) (k0_off12 k) S32x128.size (inb12 k), k0_pay9 (View.ld x2 (Rect.unit (s := S5x40) (k0_off9 k) S1x1.size (inb9 k)) (Shape.Idx.first pos1)) (View.ld x1 (Rect.unit (s := S576x5120) (k0_off10 k) S64x128.size (inb10 k)))⟩,
   ⟨Rect.unit (s := S576x5120) (k0_off11 k) S32x128.size (inb11 k), k0_pay8 (View.ld x2 (Rect.unit (s := S5x40) (k0_off9 k) S1x1.size (inb9 k)) (Shape.Idx.first pos1)) (View.ld x1 (Rect.unit (s := S576x5120) (k0_off10 k) S64x128.size (inb10 k)))⟩,
   ⟨Rect.unit (s := S576x5120) (k0_off8 k) S128x128.size (inb8 k), k0_pay6 (k0_pay5 (View.ld x2 (Rect.unit (s := S5x40) (k0_off7 k) S1x1.size (inb7 k)) (Shape.Idx.first pos1))) (View.ld x1 (Rect.unit (s := S576x5120) (k0_off8 k) S128x128.size (inb8 k)))⟩,
   ⟨Rect.unit (s := S576x5120) (k0_off6 k) S128x128.size (inb6 k), k0_pay4 (View.ld x2 (Rect.unit (s := S5x40) (k0_off5 k) S1x1.size (inb5 k)) (Shape.Idx.first pos1)) (View.ld x1 (Rect.unit (s := S576x5120) (k0_off6 k) S128x128.size (inb6 k)))⟩,
   ⟨Rect.unit (s := S576x5120) (k0_off4 k) S128x128.size (inb4 k), k0_pay3 (View.ld x2 (Rect.unit (s := S5x40) (k0_off3 k) S1x1.size (inb3 k)) (Shape.Idx.first pos1)) (View.ld x1 (Rect.unit (s := S576x5120) (k0_off4 k) S128x128.size (inb4 k)))⟩,
   ⟨Rect.unit (s := S576x5120) (k0_off2 k) S128x128.size (inb2 k), k0_pay2 (View.ld x2 (Rect.unit (s := S5x40) (k0_off1 k) S1x1.size (inb1 k)) (Shape.Idx.first pos1)) (View.ld x1 (Rect.unit (s := S576x5120) (k0_off2 k) S128x128.size (inb2 k)))⟩]

theorem trip_eq (𝒱 : Variants) (c : Dev nD) (bd : Option 𝒱.V) (i : grid0.Coords) (arg2 : Memref sig .tc .vmem S512x5120 .bf16) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .bf16) (harg5 : arg5.IsWhole) (arg6 : Memref sig .tc .vmem S6x2048 .i32) (harg6 : arg6.IsWhole) (arg7 : Memref sig .tc .vmem S32x128 .f32) (harg7 : arg7.IsWhole) (arg8 : Memref sig .tc .vmem S512x512 .bf16) (harg8 : arg8.IsWhole) (arg9 : Memref sig .tc .vmem S512x64 .bf16) (harg9 : arg9.IsWhole) (arg10 : Memref sig .tc .vmem S512x5120 .fp8e4m3) (harg10 : arg10.IsWhole) (arg11 : Memref sig .tc .vmem S512x40 .f32) (harg11 : arg11.IsWhole) (arg12 : Memref sig .tc .vmem S576x5120 .bf16) (harg12 : arg12.IsWhole) (arg13 : Memref sig .tc .vmem S512x5120 .bf16) (harg13 : arg13.IsWhole) (k0_h1 : k0_cond1 i = 1#1) (X_arg3 : BufTy.Contents (Elt F) arg3.view.ty) (X_arg4 : BufTy.Contents (Elt F) arg4.view.ty) (k : Fin k0_t1_loop.trips) : tripL_k0_t1 (F := F) 𝒱 c bd i arg2 harg2 arg3 harg3 arg4 harg4 arg5 harg5 arg6 harg6 arg7 harg7 arg8 harg8 arg9 harg9 arg10 harg10 arg11 harg11 arg12 harg12 arg13 harg13 k0_h1 X_arg3 X_arg4 k = wtrip (View.read (Elt F) arg3.view X_arg3) (View.read (Elt F) arg4.view X_arg4) k := by
  unfold tripL_k0_t1 trip_k0_t1 wtrip
  dsimp only
  sl_unfold_words
  rfl

/-- The stores of the first `n` trips, the last first. -/
def wtiles (x1 : Vec F S576x5120 .fp8e4m3) (x2 : Vec F S5x40 .f32) : (n : ℕ) → n ≤ k0_t1_loop.trips → List (View.Piece (Elt F) S576x5120 .bf16)
  | 0, _ => []
  | n + 1, h => wtrip x1 x2 ⟨n, h⟩ ++ wtiles x1 x2 n (Nat.le_of_succ_le h)

theorem wtrip_sub (x1 : Vec F S576x5120 .fp8e4m3) (x2 : Vec F S5x40 .f32) (k : Fin k0_t1_loop.trips) :
    ∀ (n : ℕ) (h : n ≤ k0_t1_loop.trips), k.val < n → ∀ p ∈ wtrip x1 x2 k, p ∈ wtiles x1 x2 n h
  | 0, _, hk => absurd hk (Nat.not_lt_zero _)
  | n + 1, h, hk => fun p hp => by
    rw [wtiles, List.mem_append]
    rcases Nat.lt_succ_iff_lt_or_eq.mp hk with hk | hk
    · exact Or.inr (wtrip_sub x1 x2 k n _ hk p hp)
    · left; have : k = ⟨n, h⟩ := Fin.ext hk
      rwa [← this]

/-- The trips' stores cover the weights. -/
theorem wtiles_cover (x1 : Vec F S576x5120 .fp8e4m3) (x2 : Vec F S5x40 .f32) (y : S576x5120.Idx) :
    ∃ p ∈ wtiles x1 x2 k0_t1_loop.trips le_rfl, y ∈ p.1.set := by
  have h0 : (y 0).val < 576 := (y 0).isLt
  have h1 : (y 1).val < 5120 := (y 1).isLt
  let k : Fin k0_t1_loop.trips := ⟨(y 1).val / 128, by rw [trips_eq]; omega⟩
  have hk : k.val = (y 1).val / 128 := rfl
  have sub := wtrip_sub x1 x2 k _ le_rfl k.isLt
  unfold wtrip at sub
  simp only [List.forall_mem_cons] at sub
  obtain ⟨m12, m11, m8, m6, m4, m2, -⟩ := sub
  by_cases c2 : (y 0).val < 128
  · refine ⟨_, m2, ?_⟩
    show y ∈ (Rect.unit (s := S576x5120) (k0_off2 k) S128x128.size (inb2 k)).set
    rw [Rect.mem_set_unit]
    rw [off2_eq]; intro a; fin_cases a
    · refine ⟨?_, ?_⟩
      · show 0 ≤ (y 0).val; omega
      · show (y 0).val < 0 + 128; omega
    · refine ⟨?_, ?_⟩
      · show 128 * k.val ≤ (y 1).val; omega
      · show (y 1).val < 128 * k.val + 128; omega
  by_cases c4 : (y 0).val < 256
  · refine ⟨_, m4, ?_⟩
    show y ∈ (Rect.unit (s := S576x5120) (k0_off4 k) S128x128.size (inb4 k)).set
    rw [Rect.mem_set_unit]
    rw [off4_eq]; intro a; fin_cases a
    · refine ⟨?_, ?_⟩
      · show 128 ≤ (y 0).val; omega
      · show (y 0).val < 128 + 128; omega
    · refine ⟨?_, ?_⟩
      · show 128 * k.val ≤ (y 1).val; omega
      · show (y 1).val < 128 * k.val + 128; omega
  by_cases c6 : (y 0).val < 384
  · refine ⟨_, m6, ?_⟩
    show y ∈ (Rect.unit (s := S576x5120) (k0_off6 k) S128x128.size (inb6 k)).set
    rw [Rect.mem_set_unit]
    rw [off6_eq]; intro a; fin_cases a
    · refine ⟨?_, ?_⟩
      · show 256 ≤ (y 0).val; omega
      · show (y 0).val < 256 + 128; omega
    · refine ⟨?_, ?_⟩
      · show 128 * k.val ≤ (y 1).val; omega
      · show (y 1).val < 128 * k.val + 128; omega
  by_cases c8 : (y 0).val < 512
  · refine ⟨_, m8, ?_⟩
    show y ∈ (Rect.unit (s := S576x5120) (k0_off8 k) S128x128.size (inb8 k)).set
    rw [Rect.mem_set_unit]
    rw [off8_eq]; intro a; fin_cases a
    · refine ⟨?_, ?_⟩
      · show 384 ≤ (y 0).val; omega
      · show (y 0).val < 384 + 128; omega
    · refine ⟨?_, ?_⟩
      · show 128 * k.val ≤ (y 1).val; omega
      · show (y 1).val < 128 * k.val + 128; omega
  by_cases c11 : (y 0).val < 544
  · refine ⟨_, m11, ?_⟩
    show y ∈ (Rect.unit (s := S576x5120) (k0_off11 k) S32x128.size (inb11 k)).set
    rw [Rect.mem_set_unit]
    rw [off11_eq]; intro a; fin_cases a
    · refine ⟨?_, ?_⟩
      · show 512 ≤ (y 0).val; omega
      · show (y 0).val < 512 + 32; omega
    · refine ⟨?_, ?_⟩
      · show 128 * k.val ≤ (y 1).val; omega
      · show (y 1).val < 128 * k.val + 128; omega
  · refine ⟨_, m12, ?_⟩
    show y ∈ (Rect.unit (s := S576x5120) (k0_off12 k) S32x128.size (inb12 k)).set
    rw [Rect.mem_set_unit]
    rw [off12_eq]; intro a; fin_cases a
    · refine ⟨?_, ?_⟩
      · show 544 ≤ (y 0).val; omega
      · show (y 0).val < 544 + 32; omega
    · refine ⟨?_, ?_⟩
      · show 128 * k.val ≤ (y 1).val; omega
      · show (y 1).val < 128 * k.val + 128; omega

/-- The rebuilt weights. -/
def wprep (x1 : Vec F S576x5120 .fp8e4m3) (x2 : Vec F S5x40 .f32) : Vec F S576x5120 .bf16 :=
  View.canon (wtiles x1 x2 k0_t1_loop.trips le_rfl)

theorem pb_eq (𝒱 : Variants) (c : Dev nD) (bd : Option 𝒱.V) (i : grid0.Coords) (arg2 : Memref sig .tc .vmem S512x5120 .bf16) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .bf16) (harg5 : arg5.IsWhole) (arg6 : Memref sig .tc .vmem S6x2048 .i32) (harg6 : arg6.IsWhole) (arg7 : Memref sig .tc .vmem S32x128 .f32) (harg7 : arg7.IsWhole) (arg8 : Memref sig .tc .vmem S512x512 .bf16) (harg8 : arg8.IsWhole) (arg9 : Memref sig .tc .vmem S512x64 .bf16) (harg9 : arg9.IsWhole) (arg10 : Memref sig .tc .vmem S512x5120 .fp8e4m3) (harg10 : arg10.IsWhole) (arg11 : Memref sig .tc .vmem S512x40 .f32) (harg11 : arg11.IsWhole) (arg12 : Memref sig .tc .vmem S576x5120 .bf16) (harg12 : arg12.IsWhole) (arg13 : Memref sig .tc .vmem S512x5120 .bf16) (harg13 : arg13.IsWhole) (k0_h1 : k0_cond1 i = 1#1) (X_arg3 : BufTy.Contents (Elt F) arg3.view.ty) (X_arg4 : BufTy.Contents (Elt F) arg4.view.ty) : ∀ (n : ℕ) (h : n ≤ k0_t1_loop.trips), pb_k0_t1 (F := F) 𝒱 c bd i arg2 harg2 arg3 harg3 arg4 harg4 arg5 harg5 arg6 harg6 arg7 harg7 arg8 harg8 arg9 harg9 arg10 harg10 arg11 harg11 arg12 harg12 arg13 harg13 k0_h1 X_arg3 X_arg4 n = wtiles (View.read (Elt F) arg3.view X_arg3) (View.read (Elt F) arg4.view X_arg4) n h
  | 0, _ => rfl
  | n + 1, h => by
    rw [wtiles, ← pb_eq 𝒱 c bd i arg2 harg2 arg3 harg3 arg4 harg4 arg5 harg5 arg6 harg6 arg7 harg7 arg8 harg8 arg9 harg9 arg10 harg10 arg11 harg11 arg12 harg12 arg13 harg13 k0_h1 X_arg3 X_arg4 n (Nat.le_of_succ_le h), ← trip_eq 𝒱 c bd i arg2 harg2 arg3 harg3 arg4 harg4 arg5 harg5 arg6 harg6 arg7 harg7 arg8 harg8 arg9 harg9 arg10 harg10 arg11 harg11 arg12 harg12 arg13 harg13 k0_h1 X_arg3 X_arg4]
    exact pb_k0_t1_succ 𝒱 c bd i arg2 harg2 arg3 harg3 arg4 harg4 arg5 harg5 arg6 harg6 arg7 harg7 arg8 harg8 arg9 harg9 arg10 harg10 arg11 harg11 arg12 harg12 arg13 harg13 k0_h1 X_arg3 X_arg4 ⟨n, h⟩

theorem read_pb (𝒱 : Variants) (c : Dev nD) (bd : Option 𝒱.V) (i : grid0.Coords) (arg2 : Memref sig .tc .vmem S512x5120 .bf16) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .bf16) (harg5 : arg5.IsWhole) (arg6 : Memref sig .tc .vmem S6x2048 .i32) (harg6 : arg6.IsWhole) (arg7 : Memref sig .tc .vmem S32x128 .f32) (harg7 : arg7.IsWhole) (arg8 : Memref sig .tc .vmem S512x512 .bf16) (harg8 : arg8.IsWhole) (arg9 : Memref sig .tc .vmem S512x64 .bf16) (harg9 : arg9.IsWhole) (arg10 : Memref sig .tc .vmem S512x5120 .fp8e4m3) (harg10 : arg10.IsWhole) (arg11 : Memref sig .tc .vmem S512x40 .f32) (harg11 : arg11.IsWhole) (arg12 : Memref sig .tc .vmem S576x5120 .bf16) (harg12 : arg12.IsWhole) (arg13 : Memref sig .tc .vmem S512x5120 .bf16) (harg13 : arg13.IsWhole) (k0_h1 : k0_cond1 i = 1#1) (X_arg3 : BufTy.Contents (Elt F) arg3.view.ty) (X_arg4 : BufTy.Contents (Elt F) arg4.view.ty) (f : arg12.view.ty.Contents (Elt F)) :
    View.read (Elt F) arg12.view (arg12.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 k0_h1 X_arg3 X_arg4 (Scf.trips k0_t1_loop.lb k0_t1_loop.ub k0_t1_loop.st)))
      = wprep (View.read (Elt F) arg3.view X_arg3) (View.read (Elt F) arg4.view X_arg4) := by
  rw [show (Scf.trips k0_t1_loop.lb k0_t1_loop.ub k0_t1_loop.st) = k0_t1_loop.trips from rfl, pb_eq 𝒱 c bd i arg2 harg2 arg3 harg3 arg4 harg4 arg5 harg5 arg6 harg6 arg7 harg7 arg8 harg8 arg9 harg9 arg10 harg10 arg11 harg11 arg12 harg12 arg13 harg13 k0_h1 X_arg3 X_arg4 _ le_rfl]
  exact View.read_writes_eq_canon _ _ _ (wtiles_cover _ _)

set_option maxHeartbeats 4000000 in
theorem run_B (c : Dev nD) (i : grid0.Coords) (arg2 : Memref sig .tc .vmem S512x5120 .bf16) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .bf16) (harg5 : arg5.IsWhole) (arg6 : Memref sig .tc .vmem S6x2048 .i32) (harg6 : arg6.IsWhole) (arg7 : Memref sig .tc .vmem S32x128 .f32) (harg7 : arg7.IsWhole) (arg8 : Memref sig .tc .vmem S512x512 .bf16) (harg8 : arg8.IsWhole) (arg9 : Memref sig .tc .vmem S512x64 .bf16) (harg9 : arg9.IsWhole) (arg10 : Memref sig .tc .vmem S512x5120 .fp8e4m3) (harg10 : arg10.IsWhole) (arg11 : Memref sig .tc .vmem S512x40 .f32) (harg11 : arg11.IsWhole) (arg12 : Memref sig .tc .vmem S576x5120 .bf16) (harg12 : arg12.IsWhole) (arg13 : Memref sig .tc .vmem S512x5120 .bf16) (harg13 : arg13.IsWhole) (hc0 : ¬first i)
    (x0 : Vec F S512x5120 .bf16) (x1 : Vec F S576x5120 .fp8e4m3) (x2 : Vec F S5x40 .f32) (x3 : Vec F S1x512 .bf16) (x4 : Vec F S6x2048 .i32) (x5 : Vec F S32x128 .f32) (w : Vec F S576x5120 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare w ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out6 x0 x3 w) ∗ owns (c : Thread nD τ) arg9 fullShare (out7 i x0 x4 x5 w) ∗ owns (c : Thread nD τ) arg10 fullShare (out8 x0) ∗ owns (c : Thread nD τ) arg11 fullShare (out9 x0) ∗ owns (c : Thread nD τ) arg12 fullShare w ∗ (∃ d, owns (c : Thread nD τ) arg13 fullShare d)) -∗ K ⟨⟩))
          ⊢ wp frame (wpE (defs₀ (F := F)) Variants.none c none) E (cc0_mla_down i arg2 harg2 arg3 harg3 arg4 harg4 arg5 harg5 arg6 harg6 arg7 harg7 arg8 harg8 arg9 harg9 arg10 harg10 arg11 harg11 arg12 harg12 arg13 harg13) K := by
    intro E K
    simp only [cc0_mla_down_eq_skeleton]; unfold cc0_mla_down_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs0, %hfs0, HS0⟩, ⟨%ds1, %fs1, -, HS1⟩, Hk⟩
    subst hf0 hf1 hf2 hf3 hf4 hf5 hfs0
    sl_exec (disch := first | sl_exact hc0)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro
      refine (View.read_writes_eq_canon _ _ _ (View.cover_of_tiled _ S512x512.size (by rfl))).trans ?_
      rw [View.canon_unit_zero (S := S512x512) hz]
      exact out6_eq arg12.view arg13.view arg5.view (View.read (Elt F) arg2.view f0) fs0 f3
    isplitl [H7]
    · iexists _; isplitr; swap; · iexact H7
      ipureintro
      refine (View.read_writes_eq_canon _ _ _ (View.cover_of_tiled _ S512x64.size (by rfl))).trans ?_
      rw [View.canon_unit_zero (S := S512x64) hz]
      exact out7_eq arg12.view arg13.view i (View.read (Elt F) arg2.view f0) (View.read (Elt F) arg6.view f4) (View.read (Elt F) arg7.view f5) fs0
    isplitl [H8]
    · iexists _; isplitr; swap; · iexact H8
      ipureintro
      refine View.read_writes_eq_canon _ _ (codesTiles (View.read (Elt F) arg2.view f0)) (codes_cover _)
    isplitl [H9]
    · iexists _; isplitr; swap; · iexact H9
      ipureintro
      refine (View.read_writes_eq_canon _ _ _ (View.cover_of_tiled _ S512x40.size (by rfl))).trans ?_
      rw [View.canon_unit_zero (S := S512x40) hz]
      rfl
    isplitl [HS0]
    · iexists _; isplitr; swap; · iexact HS0
      ipureintro; rfl
    iexists _, _; isplitr; swap; · iexact HS1
    ipureintro; rfl

set_option maxHeartbeats 4000000 in
theorem run_A (c : Dev nD) (i : grid0.Coords) (arg2 : Memref sig .tc .vmem S512x5120 .bf16) (harg2 : arg2.IsWhole) (arg3 : Memref sig .tc .vmem S576x5120 .fp8e4m3) (harg3 : arg3.IsWhole) (arg4 : Memref sig .tc .smem S5x40 .f32) (harg4 : arg4.IsWhole) (arg5 : Memref sig .tc .vmem S1x512 .bf16) (harg5 : arg5.IsWhole) (arg6 : Memref sig .tc .vmem S6x2048 .i32) (harg6 : arg6.IsWhole) (arg7 : Memref sig .tc .vmem S32x128 .f32) (harg7 : arg7.IsWhole) (arg8 : Memref sig .tc .vmem S512x512 .bf16) (harg8 : arg8.IsWhole) (arg9 : Memref sig .tc .vmem S512x64 .bf16) (harg9 : arg9.IsWhole) (arg10 : Memref sig .tc .vmem S512x5120 .fp8e4m3) (harg10 : arg10.IsWhole) (arg11 : Memref sig .tc .vmem S512x40 .f32) (harg11 : arg11.IsWhole) (arg12 : Memref sig .tc .vmem S576x5120 .bf16) (harg12 : arg12.IsWhole) (arg13 : Memref sig .tc .vmem S512x5120 .bf16) (harg13 : arg13.IsWhole) (hc0 : first i)
    (x0 : Vec F S512x5120 .bf16) (x1 : Vec F S576x5120 .fp8e4m3) (x2 : Vec F S5x40 .f32) (x3 : Vec F S1x512 .bf16) (x4 : Vec F S6x2048 .i32) (x5 : Vec F S32x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out6 x0 x3 (wprep x1 x2)) ∗ owns (c : Thread nD τ) arg9 fullShare (out7 i x0 x4 x5 (wprep x1 x2)) ∗ owns (c : Thread nD τ) arg10 fullShare (out8 x0) ∗ owns (c : Thread nD τ) arg11 fullShare (out9 x0) ∗ owns (c : Thread nD τ) arg12 fullShare (wprep x1 x2) ∗ (∃ d, owns (c : Thread nD τ) arg13 fullShare d)) -∗ K ⟨⟩))
          ⊢ wp frame (wpE (defs₀ (F := F)) Variants.none c none) E (cc0_mla_down i arg2 harg2 arg3 harg3 arg4 harg4 arg5 harg5 arg6 harg6 arg7 harg7 arg8 harg8 arg9 harg9 arg10 harg10 arg11 harg11 arg12 harg12 arg13 harg13) K := by
    intro E K
    simp only [cc0_mla_down_eq_skeleton]; unfold cc0_mla_down_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, Hk⟩
    subst hf0 hf1 hf2 hf3 hf4 hf5
    sl_exec (disch := first | sl_exact hc0)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro
      refine (View.read_writes_eq_canon _ _ _ (View.cover_of_tiled _ S512x512.size (by rfl))).trans ?_
      rw [View.canon_unit_zero (S := S512x512) hz]
      rw [← read_pb Variants.none c none i arg2 harg2 arg3 harg3 arg4 harg4 arg5 harg5 arg6 harg6 arg7 harg7 arg8 harg8 arg9 harg9 arg10 harg10 arg11 harg11 arg12 harg12 arg13 harg13 hc0 f1 f2 fs0]
      exact out6_eq arg12.view arg13.view arg5.view (View.read (Elt F) arg2.view f0) _ f3
    isplitl [H7]
    · iexists _; isplitr; swap; · iexact H7
      ipureintro
      refine (View.read_writes_eq_canon _ _ _ (View.cover_of_tiled _ S512x64.size (by rfl))).trans ?_
      rw [View.canon_unit_zero (S := S512x64) hz]
      rw [← read_pb Variants.none c none i arg2 harg2 arg3 harg3 arg4 harg4 arg5 harg5 arg6 harg6 arg7 harg7 arg8 harg8 arg9 harg9 arg10 harg10 arg11 harg11 arg12 harg12 arg13 harg13 hc0 f1 f2 fs0]
      exact out7_eq arg12.view arg13.view i (View.read (Elt F) arg2.view f0) (View.read (Elt F) arg6.view f4) (View.read (Elt F) arg7.view f5) _
    isplitl [H8]
    · iexists _; isplitr; swap; · iexact H8
      ipureintro
      refine View.read_writes_eq_canon _ _ (codesTiles (View.read (Elt F) arg2.view f0)) (codes_cover _)
    isplitl [H9]
    · iexists _; isplitr; swap; · iexact H9
      ipureintro
      refine (View.read_writes_eq_canon _ _ _ (View.cover_of_tiled _ S512x40.size (by rfl))).trans ?_
      rw [View.canon_unit_zero (S := S512x40) hz]
      rfl
    isplitl [HS0]
    · iexists _; isplitr; swap; · iexact HS0
      ipureintro; exact read_pb Variants.none c none i arg2 harg2 arg3 harg3 arg4 harg4 arg5 harg5 arg6 harg6 arg7 harg7 arg8 harg8 arg9 harg9 arg10 harg10 arg11 harg11 arg12 harg12 arg13 harg13 hc0 f1 f2 fs0
    iexists _, _; isplitr; swap; · iexact HS1
    ipureintro; rfl

end Cert.KernelIdeal.Run

end
-- ==== Proof.Blocks.lean ====
/-
  THE SCALES OF A BLOCK, in the extended reals: what the two programs do with a block's largest magnitude `a`. One reads an
  exponent field off a table of bounds, the other takes a floor of a logarithm; both then multiply by a power of two, clip
  at 448 and multiply back. Nothing here names a program.
-/
module

public import Idealize.ShloMosaic.Lib.Pointwise

@[expose] public section

noncomputable section

namespace Cert.Blocks

open Idealize.ShloMosaic

/-! ## Words as powers of two -/

/-- The value of a word from its fields. -/
theorem ieee_normal (b : BitVec 32) (e f : ℕ) (he : 0 < e) (he' : e < 255) (h1 : (b.extractLsb' 23 8).toNat = e)
    (h2 : (b.extractLsb' 0 23).toNat = f) (h3 : b.extractLsb' 31 1 = 0#1) :
    Ideal.ofBits .f32 b = (((8388608 + (f : ℝ)) * (2 : ℝ) ^ ((e : ℤ) - 150) : ℝ) : EReal) := by
  have e1 : (e : ℤ) - (2 ^ (8 - 1) - 1) - (23 : ℕ) = (e : ℤ) - 150 := by norm_num; ring
  have e2 : ((2 ^ 23 + f : ℕ) : ℝ) = 8388608 + (f : ℝ) := by push_cast; norm_num
  show Ideal.ieee 8 23 b = _
  unfold Ideal.ieee
  simp only [h1, h2, Nat.reduceAdd, h3, e1, e2]
  have n1 : ¬ e = 2 ^ 8 - 1 := by omega
  have n2 : ¬ e = 0 := by omega
  simp only [n1, n2, if_false]
  simp
theorem ieee_small (b : BitVec 32) (f : ℕ) (h1 : (b.extractLsb' 23 8).toNat = 0)
    (h2 : (b.extractLsb' 0 23).toNat = f) (h3 : b.extractLsb' 31 1 = 0#1) :
    Ideal.ofBits .f32 b = (((f : ℝ) * (2 : ℝ) ^ (-149 : ℤ) : ℝ) : EReal) := by
  have e1 : (1 - (2 ^ (8 - 1) - 1) - (23 : ℕ) : ℤ) = -149 := by norm_num
  show Ideal.ieee 8 23 b = _
  unfold Ideal.ieee
  simp only [h1, h2, Nat.reduceAdd, h3, e1]
  have n1 : ¬ 0 = 2 ^ 8 - 1 := by omega
  simp only [n1, if_false, if_true]
  simp

/-! The three fields of a word. -/

theorem w1 (e f : ℕ) (he : 0 < e) (he' : e < 255) (hf : f < 8388608) : ((BitVec.ofNat 32 (e * 8388608 + f)).extractLsb' 23 8).toNat = e := by
  rw [BitVec.extractLsb'_toNat, BitVec.toNat_ofNat, Nat.shiftRight_eq_div_pow]
  have a1 : e * 8388608 + f < 4294967296 := by omega
  rw [show (2:ℕ)^32 = 4294967296 by norm_num, show (2:ℕ)^23 = 8388608 by norm_num, show (2:ℕ)^8 = 256 by norm_num, Nat.mod_eq_of_lt a1]
  have a2 : (e * 8388608 + f) / 8388608 = e := by
    rw [Nat.add_comm, Nat.add_mul_div_right _ _ (by norm_num), Nat.div_eq_of_lt hf, Nat.zero_add]
  rw [a2, Nat.mod_eq_of_lt (by omega)]
theorem w2 (e f : ℕ) (he : 0 < e) (he' : e < 255) (hf : f < 8388608) : ((BitVec.ofNat 32 (e * 8388608 + f)).extractLsb' 0 23).toNat = f := by
  rw [BitVec.extractLsb'_toNat, BitVec.toNat_ofNat, Nat.shiftRight_eq_div_pow]
  have a1 : e * 8388608 + f < 4294967296 := by omega
  rw [show (2:ℕ)^32 = 4294967296 by norm_num, show (2:ℕ)^23 = 8388608 by norm_num, Nat.pow_zero, Nat.div_one, Nat.mod_eq_of_lt a1]
  rw [Nat.mul_comm, Nat.mul_add_mod, Nat.mod_eq_of_lt hf]
theorem w3 (e f : ℕ) (he : 0 < e) (he' : e < 255) (hf : f < 8388608) : ((BitVec.ofNat 32 (e * 8388608 + f)).extractLsb' 31 1) = 0#1 := by
  apply BitVec.eq_of_toNat_eq
  rw [BitVec.extractLsb'_toNat, BitVec.toNat_ofNat, Nat.shiftRight_eq_div_pow]
  have a1 : e * 8388608 + f < 4294967296 := by omega
  have a0 : e * 8388608 + f < 2147483648 := by omega
  rw [show (2:ℕ)^32 = 4294967296 by norm_num, show (2:ℕ)^31 = 2147483648 by norm_num, Nat.mod_eq_of_lt a1, Nat.div_eq_of_lt a0]
  rfl

/-- A 32-bit word with exponent field `e` and fraction `f`, as a real. -/
theorem ofBits_word (e f : ℕ) (he : 0 < e) (he' : e < 255) (hf : f < 8388608) :
    Ideal.ofBits .f32 (BitVec.ofNat 32 (e * 8388608 + f)) = (((8388608 + (f : ℝ)) * (2 : ℝ) ^ ((e : ℤ) - 150) : ℝ) : EReal) :=
  ieee_normal _ e f he he' (w1 e f he he' hf) (w2 e f he he' hf) (w3 e f he he' hf)

/-- A word with exponent field zero. -/
theorem ofBits_sub (f : ℕ) (hf : f < 8388608) :
    Ideal.ofBits .f32 (BitVec.ofNat 32 f) = (((f : ℝ) * (2 : ℝ) ^ (-149 : ℤ) : ℝ) : EReal) := by
  have a1 : f < 4294967296 := by omega
  have a0 : f < 2147483648 := by omega
  refine ieee_small _ f ?_ ?_ ?_
  · rw [BitVec.extractLsb'_toNat, BitVec.toNat_ofNat, Nat.shiftRight_eq_div_pow]
    rw [show (2:ℕ)^32 = 4294967296 by norm_num, show (2:ℕ)^23 = 8388608 by norm_num, Nat.mod_eq_of_lt a1, Nat.div_eq_of_lt hf, Nat.zero_mod]
  · rw [BitVec.extractLsb'_toNat, BitVec.toNat_ofNat, Nat.shiftRight_eq_div_pow]
    rw [show (2:ℕ)^32 = 4294967296 by norm_num, show (2:ℕ)^23 = 8388608 by norm_num, Nat.pow_zero, Nat.div_one, Nat.mod_eq_of_lt a1, Nat.mod_eq_of_lt hf]
  · apply BitVec.eq_of_toNat_eq
    rw [BitVec.extractLsb'_toNat, BitVec.toNat_ofNat, Nat.shiftRight_eq_div_pow]
    rw [show (2:ℕ)^32 = 4294967296 by norm_num, show (2:ℕ)^31 = 2147483648 by norm_num, Nat.mod_eq_of_lt a1, Nat.div_eq_of_lt a0]
    rfl

/-- An integer power of two. -/
def p2 (k : ℤ) : EReal := (((2 : ℝ) ^ k : ℝ) : EReal)

theorem ofBits_p2 (e : ℕ) (he : 0 < e) (he' : e < 255) : Ideal.ofBits .f32 (BitVec.ofNat 32 (e * 8388608)) = p2 ((e : ℤ) - 127) := by
  have h := ofBits_word e 0 he he' (by norm_num)
  rw [Nat.add_zero] at h
  rw [h, p2]
  congr 1
  rw [show (e : ℤ) - 127 = 23 + ((e : ℤ) - 150) by ring, zpow_add₀ (by norm_num : (2 : ℝ) ≠ 0)]
  norm_num

/-! ## The table of bounds -/

/-- The least magnitude whose scale has exponent field `n`. -/
def bound (n : ℕ) : ℝ := if n = 0 then 0 else if n = 1 then 6291456 * (2 : ℝ) ^ (-149 : ℤ) else 14680064 * (2 : ℝ) ^ ((n : ℤ) - 151)

theorem word_lane : ∀ n : Fin 256, IntOp.shli .vector (BitVec.ofNat 32 n.val) 23#32 = BitVec.ofNat 32 (n.val * 8388608) := by decide +kernel
theorem word_bound : ∀ n : Fin 256, IntOp.maxsi (IntOp.subi (IntOp.shli .vector (BitVec.ofNat 32 n.val) 23#32) 2097152#32) 0#32
    = BitVec.ofNat 32 (n.val * 8388608 - 2097152) := by decide +kernel

theorem ofBits_bound (n : Fin 256) :
    Ideal.ofBits .f32 (IntOp.maxsi (IntOp.subi (IntOp.shli .vector (BitVec.ofNat 32 n.val) 23#32) 2097152#32) 0#32) = ((bound n.val : ℝ) : EReal) := by
  rw [word_bound]
  have hn := n.isLt
  unfold bound
  rcases Nat.eq_zero_or_pos n.val with h0 | h0
  · rw [h0, if_pos rfl, ofBits_sub _ (by norm_num)]; norm_num
  · rw [if_neg (by omega)]
    by_cases h1 : n.val = 1
    · rw [h1, if_pos rfl, ofBits_sub _ (by norm_num)]; norm_num
    · rw [if_neg h1, show n.val * 8388608 - 2097152 = (n.val - 1) * 8388608 + 6291456 by omega,
        ofBits_word _ _ (by omega) (by omega) (by norm_num)]
      congr 1
      rw [Nat.cast_sub h0]
      rw [show (n.val : ℤ) - (1 : ℕ) - 150 = (n.val : ℤ) - 151 by push_cast; ring]
      norm_num

theorem bound_lt {n k : ℕ} (h : n < k) : bound n < bound k := by
  unfold bound
  rw [if_neg (by omega : k ≠ 0)]
  rcases Nat.eq_zero_or_pos n with h0 | h0
  · rw [if_pos h0]; split <;> positivity
  · rw [if_neg (by omega), if_neg (by omega : k ≠ 1)]
    by_cases h1 : n = 1
    · rw [if_pos h1]
      have : (2 : ℝ) ^ (-149 : ℤ) ≤ 2 ^ ((k : ℤ) - 151) := zpow_le_zpow_right₀ (by norm_num) (by omega)
      have h2 : (0 : ℝ) < 2 ^ (-149 : ℤ) := by positivity
      linarith
    · rw [if_neg h1]
      have : (2 : ℝ) ^ ((n : ℤ) - 151) < 2 ^ ((k : ℤ) - 151) := zpow_lt_zpow_right₀ (by norm_num) (by omega)
      linarith

/-! ## The exponent field read off the table -/

/-- The largest of the fields whose bound is reached, as the word a fold over the table leaves. -/
def fieldWord (a : EReal) : BitVec 32 :=
  (Finset.univ : Finset (Fin 256)).fold IntOp.maxsi 2147483648#32 fun n =>
    if Ideal.ofBits .f32 (IntOp.maxsi (IntOp.subi (IntOp.shli .vector (BitVec.ofNat 32 n.val) 23#32) 2097152#32) 0#32) ≤ a
    then IntOp.shli .vector (BitVec.ofNat 32 n.val) 23#32 else 0#32

theorem toInt_maxsi (x y : BitVec 32) : (IntOp.maxsi x y).toInt = max x.toInt y.toInt := by
  unfold IntOp.maxsi
  simp only [BitVec.slt, decide_eq_true_eq]
  split <;> omega

theorem toInt_field (n : ℕ) (h : n < 256) : (BitVec.ofNat 32 (n * 8388608)).toInt = (n * 8388608 : ℕ) := by
  have a1 : n * 8388608 < 4294967296 := by omega
  have a0 : 2 * (n * 8388608) < 4294967296 := by omega
  rw [BitVec.toInt_eq_toNat_cond, BitVec.toNat_ofNat, show (2:ℕ)^32 = 4294967296 by norm_num, Nat.mod_eq_of_lt a1, if_pos a0]

theorem lane_value (a : EReal) (n : Fin 256) :
    (if Ideal.ofBits .f32 (IntOp.maxsi (IntOp.subi (IntOp.shli .vector (BitVec.ofNat 32 n.val) 23#32) 2097152#32) 0#32) ≤ a
      then IntOp.shli .vector (BitVec.ofNat 32 n.val) 23#32 else 0#32 : BitVec 32).toInt
      = if ((bound n.val : ℝ) : EReal) ≤ a then ((n.val * 8388608 : ℕ) : ℤ) else 0 := by
  rw [ofBits_bound, word_lane]
  split
  · exact toInt_field _ n.isLt
  · rfl

/-- The field of a magnitude: the word is `n · 2^23` for the last `n` whose bound is reached. -/
theorem fieldWord_eq (a : EReal) (ha : 0 ≤ a) :
    ∃ n : ℕ, n < 256 ∧ fieldWord a = BitVec.ofNat 32 (n * 8388608) ∧ ((bound n : ℝ) : EReal) ≤ a ∧ ∀ k, n < k → k < 256 → a < ((bound k : ℝ) : EReal) := by
  classical
  let S := (Finset.range 256).filter fun n => ((bound n : ℝ) : EReal) ≤ a
  have hS : S.Nonempty := ⟨0, by simp [S, bound, ha]⟩
  refine ⟨S.max' hS, ?_, ?_, ?_, ?_⟩
  · have := S.max'_mem hS
    simp only [S, Finset.mem_filter, Finset.mem_range] at this
    exact this.1
  · have hm := S.max'_mem hS
    have hm' : S.max' hS < 256 ∧ ((bound (S.max' hS) : ℝ) : EReal) ≤ a := by
      simpa only [S, Finset.mem_filter, Finset.mem_range] using hm
    apply BitVec.eq_of_toInt_eq
    rw [toInt_field _ hm'.1]
    unfold fieldWord
    rw [← Finset.fold_hom (op' := max) (m := BitVec.toInt) toInt_maxsi]
    simp only [lane_value]
    apply le_antisymm
    · rw [Finset.fold_max_le]
      refine ⟨by rw [show (2147483648#32 : BitVec 32).toInt = -2147483648 by decide]; exact le_trans (by norm_num) (Int.natCast_nonneg _), fun n _ => ?_⟩
      split
      · rename_i h
        have : n.val ≤ S.max' hS := S.le_max' _ (by simp only [S, Finset.mem_filter, Finset.mem_range]; exact ⟨n.isLt, h⟩)
        exact_mod_cast Nat.mul_le_mul_right _ this
      · positivity
    · rw [Finset.le_fold_max]
      right
      exact ⟨⟨S.max' hS, hm'.1⟩, Finset.mem_univ _, by rw [if_pos hm'.2]⟩
  · have := S.max'_mem hS
    simp only [S, Finset.mem_filter, Finset.mem_range] at this
    exact this.2
  · intro k hk hk'
    by_contra hlt
    have : k ≤ S.max' hS := S.le_max' _ (by simp only [S, Finset.mem_filter, Finset.mem_range]; exact ⟨hk', not_lt.mp hlt⟩)
    omega

/-! ## The scale and its inverse -/

/-- The word of the scale: the field, at least nine, less eight. -/
def scaleWord (w : BitVec 32) : BitVec 32 := IntOp.subi (IntOp.maxsi w 75497472#32) 67108864#32

theorem scaleWord_eq : ∀ n : Fin 256, scaleWord (BitVec.ofNat 32 (n.val * 8388608)) = BitVec.ofNat 32 ((max n.val 9 - 8) * 8388608) := by
  decide +kernel
theorem inverseWord_eq : ∀ n : Fin 256, IntOp.subi 2130706432#32 (scaleWord (BitVec.ofNat 32 (n.val * 8388608)))
    = BitVec.ofNat 32 ((254 - (max n.val 9 - 8)) * 8388608) := by
  decide +kernel

theorem ofBits_scale (n : ℕ) (h : n < 256) : Ideal.ofBits .f32 (scaleWord (BitVec.ofNat 32 (n * 8388608))) = p2 ((max n 9 : ℕ) - 135) := by
  rw [scaleWord_eq ⟨n, h⟩, ofBits_p2 _ (by dsimp only; omega) (by dsimp only; omega)]
  congr 1; dsimp only; omega
theorem ofBits_inverse (n : ℕ) (h : n < 256) :
    Ideal.ofBits .f32 (IntOp.subi 2130706432#32 (scaleWord (BitVec.ofNat 32 (n * 8388608)))) = p2 (-((max n 9 : ℕ) - 135)) := by
  rw [inverseWord_eq ⟨n, h⟩, ofBits_p2 _ (by dsimp only; omega) (by dsimp only; omega)]
  congr 1; dsimp only; omega

/-! ## Clipping -/

theorem ofBits_448 : Ideal.ofBits .bf16 0x43E0#16 = ((448 : ℝ) : EReal) := by
  simp [Ideal.ofBits, Ideal.ieee, -EReal.coe_mul]; norm_num
theorem ofBits_neg448 : Ideal.ofBits .bf16 0xC3E0#16 = ((-448 : ℝ) : EReal) := by
  simp [Ideal.ofBits, Ideal.ieee, -EReal.coe_mul, -EReal.coe_neg]; norm_num

/-- Clipped at the largest code. -/
def clip (x : EReal) : EReal := min (Ideal.ofBits .bf16 0x43E0#16) (max (Ideal.ofBits .bf16 0xC3E0#16) x)

theorem clip_coe (x : ℝ) : clip x = ((min 448 (max (-448) x) : ℝ) : EReal) := by
  rw [clip, ofBits_448, ofBits_neg448]; norm_cast

/-- A value whose magnitude is below 448 scales is rebuilt exactly. -/
theorem clip_back (x : ℝ) (k : ℤ) (h : |x| ≤ 448 * (2 : ℝ) ^ k) : clip ((x : EReal) * p2 (-k)) * p2 k = x := by
  have hp : (0 : ℝ) < 2 ^ k := by positivity
  have h1 : x * (2 : ℝ) ^ (-k) = x / 2 ^ k := by rw [zpow_neg]; rfl
  have h2 : |x / 2 ^ k| ≤ 448 := by rw [abs_div, abs_of_pos hp, div_le_iff₀ hp]; exact h
  rw [p2, p2, ← EReal.coe_mul, clip_coe, h1, max_eq_right (by linarith [(abs_le.mp h2).1]), min_eq_right (abs_le.mp h2).2,
    ← EReal.coe_mul, div_mul_cancel₀ _ hp.ne']

/-! ## The floor of a logarithm -/

theorem ofBits_448' : Ideal.ofBits .f32 0x43E00000#32 = ((448 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num

/-- The reference's exponent of a block with largest magnitude `a`. -/
def refExp (a : EReal) : EReal :=
  if a = 0 then 0 else
    Ideal.liftRound Int.floor (Ideal.div (Ideal.log (Ideal.div a (Ideal.ofBits .f32 0x43E00000#32))) (Ideal.log (Ideal.ofBits .f32 0x40000000#32))) + 1

theorem div_coe (x y : ℝ) (h : y ≠ 0) : Ideal.div (x : EReal) (y : EReal) = ((x / y : ℝ) : EReal) := by
  unfold Ideal.div
  rw [if_neg (by exact_mod_cast h)]
  rw [← EReal.coe_inv, ← EReal.coe_mul]; rfl

theorem refExp_zero : refExp 0 = 0 := by
  unfold refExp; simp

theorem refExp_eq (a : ℝ) (k : ℤ) (h1 : 448 * (2 : ℝ) ^ (k - 1) ≤ a) (h2 : a < 448 * (2 : ℝ) ^ k) : refExp a = ((k : ℝ) : EReal) := by
  have hpos : 0 < a := lt_of_lt_of_le (by positivity) h1
  have h0 : (a : EReal) ≠ 0 := by exact_mod_cast hpos.ne'
  have hl2 : 0 < Real.log 2 := Real.log_pos (by norm_num)
  have hf : ⌊Real.log (a / 448) / Real.log 2⌋ = k - 1 := by
    rw [Int.floor_eq_iff]
    constructor
    · rw [le_div_iff₀ hl2, ← Real.log_zpow]
      exact Real.log_le_log (by positivity) (by rw [le_div_iff₀ (by norm_num)]; linarith)
    · rw [div_lt_iff₀ hl2]
      have : ((k - 1 : ℤ) : ℝ) + 1 = (k : ℤ) := by push_cast; ring
      rw [this, ← Real.log_zpow]
      exact Real.log_lt_log (by positivity) (by rw [div_lt_iff₀ (by norm_num)]; linarith)
  unfold refExp
  rw [ofBits_448', ofBits_two, div_coe _ _ (by norm_num)]
  have e1 : Ideal.log ((a / 448 : ℝ) : EReal) = ((Real.log (a / 448) : ℝ) : EReal) := by
    show (if _ then _ else _) = _
    rw [if_neg (by have : 0 < a / 448 := by positivity
                   linarith)]
  have e2 : Ideal.log ((2 : ℝ) : EReal) = ((Real.log 2 : ℝ) : EReal) := by
    show (if _ then _ else _) = _
    rw [if_neg (by norm_num)]
  rw [e1, e2, div_coe _ _ hl2.ne', Ideal.liftRound_coe, hf]
  rw [if_neg h0]
  push_cast
  rw [← EReal.coe_one, ← EReal.coe_sub, ← EReal.coe_add]
  congr 1; ring

theorem exp2_coe (k : ℤ) : Ideal.exp2 ((k : ℝ) : EReal) = p2 k := by
  show ((Real.rpow 2 k : ℝ) : EReal) = _
  rw [p2]; congr 1; exact Real.rpow_intCast 2 k

end Cert.Blocks

end
-- ==== Proof.Scaling.lean ====
/-
  One block of 128 values: what the kernel and the reference make of it — its scale, its codes, its values
  rebuilt — and where the two agree.
-/
module

public import proofs.«01_k».proof.Proof.Blocks

@[expose] public section

noncomputable section

namespace Cert.Blocks

open Idealize.ShloMosaic

/-- The largest magnitude of a block. -/
def amax (v : Fin 128 → EReal) : EReal :=
  (Finset.univ : Finset (Fin 128)).fold max (Ideal.ofBits .bf16 0xFF80#16) fun k => (FloatOps.absf (v k : Ideal .bf16) : Ideal .bf16)

theorem absf_eq (x : EReal) : (FloatOps.absf (x : Ideal .bf16) : Ideal .bf16) = max x (-x) := rfl

theorem le_amax (v : Fin 128 → EReal) (k : Fin 128) : max (v k) (-(v k)) ≤ amax v := by
  unfold amax
  rw [Finset.le_fold_max]
  exact Or.inr ⟨k, Finset.mem_univ _, le_of_eq (absf_eq _).symm⟩

theorem amax_nonneg (v : Fin 128 → EReal) : 0 ≤ amax v := by
  refine le_trans ?_ (le_amax v 0)
  rcases le_total 0 (v 0) with h | h
  · exact le_max_of_le_left h
  · exact le_max_of_le_right (by rwa [EReal.neg_nonneg])

/-- A block whose largest magnitude is a real number holds real numbers, none larger in magnitude. -/
theorem real_of_amax (v : Fin 128 → EReal) (a : ℝ) (h : amax v = a) (k : Fin 128) : ∃ x : ℝ, v k = x ∧ |x| ≤ a := by
  have h1 := le_amax v k
  rw [h] at h1
  have h2 : v k ≤ a := le_trans (le_max_left _ _) h1
  have h3 : -(v k) ≤ a := le_trans (le_max_right _ _) h1
  have ht : v k ≠ ⊤ := fun e => by rw [e] at h2; exact absurd h2 (by simp)
  have hb : v k ≠ ⊥ := fun e => by rw [e, EReal.neg_bot] at h3; exact absurd h3 (by simp)
  refine ⟨(v k).toReal, (EReal.coe_toReal ht hb).symm, ?_⟩
  rw [← EReal.coe_toReal ht hb] at h2 h3
  rw [abs_le]
  have h2' : (v k).toReal ≤ a := by exact_mod_cast h2
  have h3' : -(v k).toReal ≤ a := by rw [← EReal.coe_neg] at h3; exact_mod_cast h3
  exact ⟨by linarith, h2'⟩

/-! ## The kernel's reading -/

def scale (v : Fin 128 → EReal) : EReal := Ideal.ofBits .f32 (scaleWord (fieldWord (amax v)))
def inverse (v : Fin 128 → EReal) : EReal := Ideal.ofBits .f32 (IntOp.subi 2130706432#32 (scaleWord (fieldWord (amax v))))
/-- The kernel's code. -/
def code (v : Fin 128 → EReal) (k : Fin 128) : EReal := clip (v k * inverse v)
/-- The kernel's value rebuilt. -/
def rebuilt (v : Fin 128 → EReal) (k : Fin 128) : EReal := code v k * scale v
/-- The scale the kernel hands out, read from the word of its exponent field. -/
def scaleOut (w : BitVec 32) : EReal :=
  if Ideal.ofBits .f32 w = 0 then 1 else max (Ideal.ofBits .f32 w) (Ideal.ofBits .f32 75497472#32) * Ideal.ofBits .f32 998244352#32

/-! ## The reference's reading -/

def refScale (v : Fin 128 → EReal) : EReal := Ideal.exp2 (refExp (amax v))
def refCode (v : Fin 128 → EReal) (k : Fin 128) : EReal := clip (v k * Ideal.exp2 (0 - refExp (amax v)))
def refRebuilt (v : Fin 128 → EReal) (k : Fin 128) : EReal := refCode v k * refScale v

/-! ## Thresholds -/

theorem ofBits_half : Ideal.ofBits .f32 0x3F000000#32 = (((1 / 2 : ℝ)) : EReal) := by
  simp [Ideal.ofBits, Ideal.ieee, -EReal.coe_mul]; norm_num

theorem bound_eq (n : ℕ) (h : 2 ≤ n) : bound n = 448 * (2 : ℝ) ^ ((n : ℤ) - 136) := by
  unfold bound
  rw [if_neg (by omega), if_neg (by omega), show (n : ℤ) - 136 = ((n : ℤ) - 151) + 15 by ring, zpow_add₀ (by norm_num)]
  norm_num; ring

theorem ofBits_low : Ideal.ofBits .f32 0x04600000#32 = ((bound 9 : ℝ) : EReal) := by
  rw [show (0x04600000#32 : BitVec 32) = IntOp.maxsi (IntOp.subi (IntOp.shli .vector (BitVec.ofNat 32 (9 : Fin 256).val) 23#32) 2097152#32) 0#32 by decide +kernel,
    ofBits_bound]
  rfl
theorem ofBits_high : Ideal.ofBits .f32 0x7F600000#32 = ((bound 255 : ℝ) : EReal) := by
  rw [show (0x7F600000#32 : BitVec 32) = IntOp.maxsi (IntOp.subi (IntOp.shli .vector (BitVec.ofNat 32 (255 : Fin 256).val) 23#32) 2097152#32) 0#32 by decide +kernel,
    ofBits_bound]
  rfl

/-- The largest magnitude is a real number once half of it is at most a real number. -/
theorem real_of_half (a : EReal) (h0 : 0 ≤ a) (h : a * Ideal.ofBits .f32 0x3F000000#32 ≤ Ideal.ofBits .f32 0x7F600000#32) :
    ∃ r : ℝ, a = r ∧ 0 ≤ r ∧ r ≤ 448 * (2 : ℝ) ^ (120 : ℤ) := by
  rw [ofBits_half, ofBits_high] at h
  have ht : a ≠ ⊤ := fun e => by
    rw [e, EReal.top_mul_coe_of_pos (by norm_num)] at h
    exact absurd h (by simp)
  have hb : a ≠ ⊥ := fun e => by rw [e] at h0; exact absurd h0 (by simp)
  obtain ⟨r, rfl⟩ : ∃ r : ℝ, a = r := ⟨a.toReal, (EReal.coe_toReal ht hb).symm⟩
  refine ⟨r, rfl, by exact_mod_cast h0, ?_⟩
  rw [← EReal.coe_mul] at h
  have h' : r * (1 / 2) ≤ bound 255 := by exact_mod_cast h
  rw [bound_eq 255 (by norm_num)] at h'
  have e : (2 : ℝ) ^ (120 : ℤ) = 2 * (2 : ℝ) ^ (((255 : ℕ) : ℤ) - 136) := by norm_num
  rw [e]; linarith

theorem real_of_half_lt (a : EReal) (h0 : 0 ≤ a) (h : a * Ideal.ofBits .f32 0x3F000000#32 < Ideal.ofBits .f32 0x7F600000#32) :
    ∃ r : ℝ, a = r ∧ 0 ≤ r ∧ r < 448 * (2 : ℝ) ^ (120 : ℤ) := by
  obtain ⟨r, rfl, hr, _⟩ := real_of_half a h0 h.le
  refine ⟨r, rfl, hr, ?_⟩
  rw [ofBits_half, ofBits_high, ← EReal.coe_mul] at h
  have h' : r * (1 / 2) < bound 255 := by exact_mod_cast h
  rw [bound_eq 255 (by norm_num)] at h'
  have e : (2 : ℝ) ^ (120 : ℤ) = 2 * (2 : ℝ) ^ (((255 : ℕ) : ℤ) - 136) := by norm_num
  rw [e]; linarith

/-- A real largest magnitude below the last threshold is at most 448 of the kernel's scale. -/
theorem below (r : ℝ) (n : ℕ) (hn : n < 256) (hk : ∀ k, n < k → k < 256 → (r : EReal) < ((bound k : ℝ) : EReal)) :
    (n < 255 ∧ r < 448 * (2 : ℝ) ^ (((max n 9 : ℕ) : ℤ) - 135)) ∨ n = 255 := by
  by_cases h : n = 255
  · exact Or.inr h
  refine Or.inl ⟨by omega, ?_⟩
  have h1 : r < bound (max n 9 + 1) := by exact_mod_cast hk (max n 9 + 1) (by omega) (by omega)
  rw [bound_eq _ (by omega)] at h1
  rwa [show ((max n 9 + 1 : ℕ) : ℤ) - 136 = ((max n 9 : ℕ) : ℤ) - 135 by push_cast; ring] at h1

/-- The kernel rebuilds every value of a block that is not larger than twice the last threshold. -/
theorem rebuilt_eq (v : Fin 128 → EReal) (h : amax v * Ideal.ofBits .f32 0x3F000000#32 ≤ Ideal.ofBits .f32 0x7F600000#32) (k : Fin 128) :
    rebuilt v k = v k := by
  obtain ⟨a, ha, h0, h1⟩ := real_of_half _ (amax_nonneg v) h
  obtain ⟨x, hx, hxa⟩ := real_of_amax v a ha k
  obtain ⟨n, hn, hw, hb, hk⟩ := fieldWord_eq (amax v) (amax_nonneg v)
  rw [rebuilt, code, inverse, scale, hw, ofBits_scale n hn, ofBits_inverse n hn, hx]
  refine clip_back x _ (hxa.trans ?_)
  rw [ha] at hk
  rcases below a n hn hk with ⟨_, h2⟩ | h2
  · exact h2.le
  · subst h2; exact h1

theorem amax_zero (v : Fin 128 → EReal) (h : amax v = 0) (k : Fin 128) : v k = 0 := by
  obtain ⟨x, hx, hxa⟩ := real_of_amax v 0 (by rw [h]; rfl) k
  rw [hx, abs_eq_zero.mp (le_antisymm hxa (abs_nonneg _))]; rfl

theorem clip_zero : clip 0 = 0 := by
  have h := clip_coe 0
  norm_num at h
  exact h

/-- A positive number lies in exactly one interval of the reference's exponents. -/
theorem exists_exponent (a : ℝ) (h : 0 < a) : ∃ k : ℤ, 448 * (2 : ℝ) ^ (k - 1) ≤ a ∧ a < 448 * (2 : ℝ) ^ k := by
  obtain ⟨n, h1, h2⟩ := exists_mem_Ico_zpow (show 0 < a / 448 by positivity) (show (1 : ℝ) < 2 by norm_num)
  refine ⟨n + 1, ?_, ?_⟩
  · rw [add_sub_cancel_right]; rw [le_div_iff₀ (by norm_num)] at h1; linarith
  · rw [div_lt_iff₀ (by norm_num)] at h2; linarith

theorem zero_sub_coe (k : ℤ) : (0 : EReal) - ((k : ℝ) : EReal) = (((-k : ℤ) : ℝ) : EReal) := by
  rw [zero_sub, ← EReal.coe_neg]; push_cast; rfl

/-- The reference rebuilds every value of a block of real numbers. -/
theorem refRebuilt_eq (v : Fin 128 → EReal) (a : ℝ) (ha : amax v = a) (k : Fin 128) : refRebuilt v k = v k := by
  obtain ⟨x, hx, hxa⟩ := real_of_amax v a ha k
  have h0 : (0 : ℝ) ≤ a := by have := amax_nonneg v; rw [ha] at this; exact_mod_cast this
  rcases h0.eq_or_lt with h0 | h0
  · have hz := amax_zero v (by rw [ha, ← h0]; rfl) k
    rw [refRebuilt, refCode, hz, zero_mul, clip_zero, zero_mul]
  · obtain ⟨e, h1, h2⟩ := exists_exponent a h0
    rw [refRebuilt, refCode, refScale, ha, refExp_eq a e h1 h2, zero_sub_coe, exp2_coe, exp2_coe, hx]
    exact clip_back x e (hxa.trans h2.le)

/-- Where the mask keeps a block, both read the same exponent. -/
theorem exponent_eq (a : ℝ) (h9 : bound 9 ≤ a) (n : ℕ) (hn : n < 256) (hb : bound n ≤ a) (hk : ∀ k, n < k → k < 256 → (a : EReal) < ((bound k : ℝ) : EReal))
    (hlt : a < 448 * (2 : ℝ) ^ (120 : ℤ)) : 9 ≤ n ∧ refExp a = ((((n : ℤ) - 135 : ℤ) : ℝ) : EReal) := by
  have h : 9 ≤ n := by
    by_contra hc
    have := hk 9 (by omega) (by norm_num)
    exact absurd (by exact_mod_cast this : a < bound 9) (not_lt.mpr h9)
  refine ⟨h, refExp_eq a _ ?_ ?_⟩
  · rw [bound_eq n (by omega)] at hb
    rwa [show (n : ℤ) - 135 - 1 = (n : ℤ) - 136 by ring]
  · rcases below a n hn hk with ⟨_, h2⟩ | h2
    · rwa [max_eq_left h] at h2
    · subst h2; exact hlt

/-- The codes agree. -/
theorem code_eq (v : Fin 128 → EReal)
    (h : amax v = 0 ∨ (Ideal.ofBits .f32 0x04600000#32 ≤ amax v ∧ amax v * Ideal.ofBits .f32 0x3F000000#32 < Ideal.ofBits .f32 0x7F600000#32)) (k : Fin 128) :
    code v k = refCode v k := by
  rcases h with h | ⟨h1, h2⟩
  · rw [code, refCode, amax_zero v h k, zero_mul, zero_mul]
  · obtain ⟨a, ha, h0, h2⟩ := real_of_half_lt _ (amax_nonneg v) h2
    obtain ⟨n, hn, hw, hb, hk⟩ := fieldWord_eq (amax v) (amax_nonneg v)
    rw [ofBits_low, ha] at h1
    rw [ha] at hb hk
    obtain ⟨h9, he⟩ := exponent_eq a (by exact_mod_cast h1) n hn (by exact_mod_cast hb) hk h2
    rw [code, refCode, inverse, hw, ofBits_inverse n hn, ha, he, zero_sub_coe, exp2_coe, max_eq_left h9]

/-- The scales agree. -/
theorem scale_eq (v : Fin 128 → EReal)
    (h : amax v = 0 ∨ (Ideal.ofBits .f32 0x04600000#32 ≤ amax v ∧ amax v < Ideal.ofBits .f32 0x7F600000#32)) :
    scaleOut (fieldWord (amax v)) = refScale v := by
  obtain ⟨n, hn, hw, hb, hk⟩ := fieldWord_eq (amax v) (amax_nonneg v)
  rcases h with h | ⟨h1, h2⟩
  · have h0 : n = 0 := by
      by_contra hc
      have hp : bound 0 < bound n := bound_lt (by omega)
      rw [h] at hb
      have hb' : bound n ≤ 0 := by exact_mod_cast hb
      rw [show bound 0 = 0 by simp [bound]] at hp
      linarith
    subst h0
    have hz := ofBits_sub 0 (by norm_num)
    rw [hw, refScale, h, refExp_zero, scaleOut, Nat.zero_mul, if_pos (by rw [hz]; norm_num)]
    have := exp2_coe 0
    rw [show ((((0 : ℤ) : ℝ)) : EReal) = 0 by norm_num] at this
    rw [this, p2]; norm_num
  · rw [ofBits_low] at h1
    rw [ofBits_high] at h2
    have ht : amax v ≠ ⊤ := fun e => by rw [e] at h2; exact absurd h2 (by simp)
    have hbt : amax v ≠ ⊥ := fun e => by rw [e] at h1; exact absurd h1 (by simp)
    obtain ⟨a, ha⟩ : ∃ r : ℝ, amax v = r := ⟨(amax v).toReal, (EReal.coe_toReal ht hbt).symm⟩
    rw [ha] at hb hk h1 h2
    have h2' : a < bound 255 := by exact_mod_cast h2
    have hn' : n ≠ 255 := fun e => by
      subst e
      exact absurd (by exact_mod_cast hb : bound 255 ≤ a) (not_le.mpr h2')
    have hlt : a < 448 * (2 : ℝ) ^ (120 : ℤ) := by
      refine h2'.trans ?_
      rw [bound_eq 255 (by norm_num)]; norm_num
    obtain ⟨h9, he⟩ := exponent_eq a (by exact_mod_cast h1) n hn (by exact_mod_cast hb) hk hlt
    have e9 : Ideal.ofBits .f32 75497472#32 = p2 (-118) := by
      have := ofBits_p2 9 (by norm_num) (by norm_num)
      norm_num at this; exact this
    have e8 : Ideal.ofBits .f32 998244352#32 = p2 (-8) := by
      have := ofBits_p2 119 (by norm_num) (by norm_num)
      norm_num at this; exact this
    rw [refScale, ha, he, exp2_coe, ← ha, hw, scaleOut, ofBits_p2 n (by omega) (by omega), e9, e8]
    have hle : p2 (-118) ≤ p2 ((n : ℤ) - 127) := by
      rw [p2, p2]
      exact_mod_cast zpow_le_zpow_right₀ (by norm_num : (1 : ℝ) ≤ 2) (by omega : (-118 : ℤ) ≤ (n : ℤ) - 127)
    rw [max_eq_left hle, if_neg]
    · rw [p2, p2, p2, ← EReal.coe_mul, ← zpow_add₀ (by norm_num)]
      congr 2; ring
    · rw [p2]
      have : ((2 : ℝ) ^ ((n : ℤ) - 127)) ≠ 0 := by positivity
      exact_mod_cast this

end Cert.Blocks

end
-- ==== Proof.KVal.lean ====
/-
  What one call of the kernel's body leaves in its buffers, entry by entry, over the extended reals.
-/
module

public import proofs.«01_k».proof.Proof.KRun
public import proofs.«01_k».proof.Proof.Scaling
public import Idealize.ShloMosaic.Lib.Pointwise
public import Idealize.ShloMosaic.Lib.Pipeline.ValueKit.Tiles

@[expose] public section

noncomputable section

namespace Cert.KernelIdeal.Run

open Idealize.ShloMosaic Cert.KernelIdeal Cert.KernelIdeal.Gen Cert.Blocks

/-- An index of a matrix is the index of its row and its column. -/
theorem idx_eta {a b : ℕ} (y : Shape.Idx ⟨2, ![a, b]⟩) : y = ix2 (y 0) (y 1) := by
  funext i; fin_cases i <;> rfl

/-! ## One block -/

theorem qbits_apply (v : Vec Ideal S512x128 .bf16) (r : Fin 512) :
    qbits (F := Ideal) v (ix2 r 0) = fieldWord (amax fun k => v (ix2 r k)) := by
  unfold qbits
  pointwise [k0_pay14, k0_pay13, k0_pay11, k0_pay10]
  rfl

theorem qcodes_apply (v : Vec Ideal S512x128 .bf16) (r : Fin 512) (k : Fin 128) :
    qcodes (F := Ideal) v (ix2 r k) = code (fun k => v (ix2 r k)) k := by
  rw [code, inverse, ← qbits_apply]
  unfold qcodes
  pointwise [k0_pay18, k0_pay17, k0_pay15, k0_pay13]
  rfl

theorem qdq_apply (v : Vec Ideal S512x128 .bf16) (r : Fin 512) (k : Fin 128) :
    qdq (F := Ideal) v (ix2 r k) = rebuilt (fun k => v (ix2 r k)) k := by
  rw [rebuilt, code, inverse, scale, ← qbits_apply]
  unfold qdq
  pointwise [k0_pay18, k0_pay19, k0_pay16, k0_pay17, k0_pay15, k0_pay13]
  rfl

/-- Block `g` of token `r` of a tile. -/
def blockOf (x0 : Vec Ideal S512x5120 .bf16) (r : Fin 512) (g : Fin 40) : Fin 128 → EReal :=
  fun k => x0 (ix2 r ⟨g.val * 128 + k.val, by have := g.isLt; have := k.isLt; omega⟩)

theorem ld_col (x0 : Vec Ideal S512x5120 .bf16) (g : ℕ) (hg : g < 40) (r : Fin 512) :
    (fun k : Fin 128 => View.ld x0 (colRect g hg) (ix2 r k)) = blockOf x0 r ⟨g, hg⟩ := by
  funext k
  refine View.ld_unit_apply_of x0 _ _ _ _ _ fun a => ?_
  fin_cases a
  · show r.val = 0 + r.val; omega
  · show g * 128 + k.val = 128 * g + k.val; omega

/-! ## A tile's codes and rebuilt values -/

theorem tiles_at {e : EltTy} (P : (g : ℕ) → g < 40 → Vec Ideal S512x128 e) (r : Fin 512) (c : Fin 5120) (val : Elt Ideal e)
    (h : ∀ (g : ℕ) (hg : g < 40) (k : Fin 128), c.val = 128 * g + k.val → P g hg (ix2 r k) = val) :
    ∀ (n : ℕ) (hn : n ≤ 40), View.AllAt (tiles P n hn) (ix2 r c) val
  | 0, _ => View.allAt_nil _ _
  | n + 1, hn => by
    rw [tiles]
    refine View.allAt_cons_unit _ _ _ _ _ (fun x hx => ?_) (tiles_at P r c val h n _)
    have h0 := hx 0
    have h1 := hx 1
    have e0 : x 0 = r := Fin.ext (by
      have : (r : ℕ) = 0 + (x 0).val := h0
      omega)
    rw [idx_eta x, e0]
    exact h n hn (x 1) h1

theorem xdq_apply (x0 : Vec Ideal S512x5120 .bf16) (r : Fin 512) (c : Fin 5120) :
    xdq x0 (ix2 r c) = rebuilt (blockOf x0 r ⟨c.val / 128, by have := c.isLt; omega⟩) ⟨c.val % 128, by omega⟩ := by
  refine View.canon_eq_of_allAt _ _ _ (View.cover_of_tiled (dqTiles x0) S512x128.size (by rfl) _) (tiles_at _ r c _ (fun g hg k e => ?_) 40 le_rfl)
  rw [qdq_apply, ld_col]
  have hk := k.isLt
  have e1 : c.val / 128 = g := by omega
  have e2 : c.val % 128 = k.val := by omega
  congr 2
  · exact Fin.ext e1.symm
  · exact Fin.ext e2.symm

theorem out8_apply (x0 : Vec Ideal S512x5120 .bf16) (r : Fin 512) (c : Fin 5120) :
    out8 x0 (ix2 r c) = code (blockOf x0 r ⟨c.val / 128, by have := c.isLt; omega⟩) ⟨c.val % 128, by omega⟩ := by
  refine View.canon_eq_of_allAt _ _ _ (codes_cover x0 _) (tiles_at _ r c _ (fun g hg k e => ?_) 40 le_rfl)
  rw [qcodes_apply, ld_col]
  have hk := k.isLt
  have e1 : c.val / 128 = g := by omega
  have e2 : c.val % 128 = k.val := by omega
  congr 2
  · exact Fin.ext e1.symm
  · exact Fin.ext e2.symm

/-! ## A tile's scales -/

theorem lane_eq (k : Fin 128) (n : ℕ) (hn : n < 40) (a b : BitVec 32) :
    Scalar.select (IntOp.cmpi .eq (BitVec.ofNat 32 k.val) (BitVec.ofNat 32 n)) a b = if k.val = n then a else b := by
  have hk := k.isLt
  by_cases h : k.val = n
  · rw [if_pos h, h]; simp [Scalar.select, IntOp.cmpi]
  · have : BitVec.ofNat 32 k.val ≠ BitVec.ofNat 32 n := fun e => by
      have := congrArg BitVec.toNat e
      rw [BitVec.toNat_ofNat, BitVec.toNat_ofNat, Nat.mod_eq_of_lt (by omega), Nat.mod_eq_of_lt (by omega)] at this
      exact h this
    rw [if_neg h]
    show (if BitVec.ofBool (BitVec.ofNat 32 k.val == BitVec.ofNat 32 n) = 1#1 then a else b) = b
    rw [beq_eq_false_iff_ne.mpr this]; rfl

theorem fields_succ (x0 : Vec Ideal S512x5120 .bf16) (n : ℕ) (h : n + 1 ≤ 40) (r : Fin 512) (k : Fin 128) :
    fields x0 (n + 1) h (ix2 r k) = if k.val = n then fieldWord (amax (blockOf x0 r ⟨n, h⟩)) else fields x0 n (Nat.le_of_succ_le h) (ix2 r k) := by
  rw [← ld_col, ← qbits_apply, ← lane_eq k n (by omega)]
  conv_lhs => unfold fields
  pointwise

theorem fields_apply (x0 : Vec Ideal S512x5120 .bf16) (r : Fin 512) (k : Fin 128) :
    ∀ (n : ℕ) (h : n ≤ 40) (hk : k.val < n), fields x0 n h (ix2 r k) = fieldWord (amax (blockOf x0 r ⟨k.val, by omega⟩))
  | 0, _, hk => absurd hk (Nat.not_lt_zero _)
  | n + 1, h, hk => by
    rw [fields_succ]
    split
    · rename_i e
      congr 3; exact Fin.ext e.symm
    · exact fields_apply x0 r k n _ (by omega)

theorem pay298_apply (b : IVec S512x128 32) (c : IVec S512x1 32) (r : Fin 512) (k : Fin 40) :
    k0_pay298 (F := Ideal) (iota .tc S512x128 32 [1] iota_S512x128_d1_w32) b c 39#32 (ix2 r k)
      = scaleOut (Scalar.select (IntOp.cmpi .eq (BitVec.ofNat 32 k.val) (BitVec.ofNat 32 39)) (c (ix2 r 0)) (b (ix2 r ⟨k.val, by have := k.isLt; omega⟩))) := by
  unfold scaleOut
  pointwise [k0_pay298]

theorem out9_apply (x0 : Vec Ideal S512x5120 .bf16) (r : Fin 512) (g : Fin 40) :
    out9 x0 (ix2 r g) = scaleOut (fieldWord (amax (blockOf x0 r g))) := by
  have hg := g.isLt
  rw [out9, pay298_apply, lane_eq ⟨g.val, by omega⟩ 39 (by norm_num)]
  congr 1
  split
  · rename_i e
    rw [qbits_apply, ld_col]
    congr 3; exact Fin.ext (Eq.symm e)
  · rename_i e
    exact fields_apply x0 r ⟨g.val, by omega⟩ 39 _ (by dsimp only at e ⊢; omega)

/-! ## The weights -/

/-- The row of the weights that row `r` of the rebuilt weights is made from: the last 64 rows come sorted by parity. -/
def source (r : Fin 576) : Fin 576 :=
  if h : r.val < 512 then r else if h' : r.val < 544 then ⟨512 + 2 * (r.val - 512), by omega⟩ else ⟨512 + (2 * (r.val - 544) + 1), by have := r.isLt; omega⟩

/-- Entry `(r, c)` of the weights times its tile's scale. -/
def weight (x1 : Vec Ideal S576x5120 .fp8e4m3) (x2 : Vec Ideal S5x40 .f32) (r : Fin 576) (c : Fin 5120) : EReal :=
  x1 (ix2 r c) * x2 (ix2 ⟨r.val / 128, by have := r.isLt; omega⟩ ⟨c.val / 128, by have := c.isLt; omega⟩)

theorem ld_scale (x2 : Vec Ideal S5x40 .f32) (off : Fin 2 → ℕ) (inb) (a : Fin 5) (b : Fin 40) (h : off = ![a.val, b.val]) :
    View.ld x2 (Rect.unit (s := S5x40) off S1x1.size inb) (Shape.Idx.first pos1) = x2 (ix2 a b) := by
  subst h
  refine View.ld_unit_apply_of x2 _ _ _ _ _ fun i => ?_
  fin_cases i <;> rfl

theorem ld_rows (x1 : Vec Ideal S576x5120 .fp8e4m3) (off size : Fin 2 → ℕ) (inb) (o g : ℕ) (h : off = ![o, 128 * g]) (y) (r : Fin 576) (c : Fin 5120)
    (h0 : r.val = o + (y 0).val) (h1 : c.val = 128 * g + (y 1).val) :
    View.ld x1 (Rect.unit (s := S576x5120) off size inb) y = x1 (ix2 r c) := by
  subst h
  refine View.ld_unit_apply_of x1 _ _ _ _ _ fun i => ?_
  fin_cases i
  · exact h0
  · exact h1

section Pieces
variable (a : Elt Ideal .f32) (b : Vec Ideal S128x128 .fp8e4m3) (d : Vec Ideal S64x128 .fp8e4m3) (r k : Fin 128) (i : Fin 32)
theorem pay2_apply : k0_pay2 (F := Ideal) a b (ix2 r k) = b (ix2 r k) * a := by pointwise [k0_pay2]
theorem pay3_apply : k0_pay3 (F := Ideal) a b (ix2 r k) = b (ix2 r k) * a := by pointwise [k0_pay3]
theorem pay4_apply : k0_pay4 (F := Ideal) a b (ix2 r k) = b (ix2 r k) * a := by pointwise [k0_pay4]
theorem pay6_apply : k0_pay6 (F := Ideal) (k0_pay5 a) b (ix2 r k) = b (ix2 r k) * a := by pointwise [k0_pay6, k0_pay5]
theorem pay8_apply : k0_pay8 (F := Ideal) a d (ix2 i k) = d (ix2 ⟨2 * i.val, by have := i.isLt; omega⟩ k) * a := by pointwise [k0_pay8, k0_pay7]
theorem pay9_apply : k0_pay9 (F := Ideal) a d (ix2 i k) = d (ix2 ⟨2 * i.val + 1, by have := i.isLt; omega⟩ k) * a := by pointwise [k0_pay9, k0_pay7]
end Pieces

/-- A piece stored at `(o, 128 g)` read at `(r, c)`. -/
theorem piece_at {R : ℕ} (w : Vec Ideal ⟨2, ![R, 128]⟩ .bf16) (off : Fin 2 → ℕ) (o g : ℕ) (hoff : off = ![o, 128 * g]) (r : Fin 576) (c : Fin 5120) (val : EReal)
    (h : ∀ (i : Fin R) (k : Fin 128), r.val = o + i.val → c.val = 128 * g + k.val → w (ix2 i k) = val) :
    View.TileAt (S := S576x5120) (Val := Elt Ideal) (e := .bf16) (ix2 r c) off (![R, 128] : Fin 2 → ℕ) w val := by
  subst hoff
  intro x hx
  have h2 := h (x 0) (x 1) (hx 0) (hx 1)
  rw [idx_eta (a := R) (b := 128) x]
  exact h2

theorem wtrip_at (x1 : Vec Ideal S576x5120 .fp8e4m3) (x2 : Vec Ideal S5x40 .f32) (t : Fin k0_t1_loop.trips) (r : Fin 576) (c : Fin 5120) :
    View.AllAt (wtrip x1 x2 t) (ix2 r c) (weight x1 x2 (source r) c) := by
  have ht : t.val < 40 := t.isLt.trans_eq trips_eq
  unfold wtrip
  refine View.allAt_cons_unit _ _ _ _ _ (piece_at (R := 32) _ _ 544 t.val (off12_eq t) r c _ fun i k h0 h1 => ?_) ?_
  · have hk := k.isLt; have hi := i.isLt
    have es : source r = ⟨512 + (2 * i.val + 1), by omega⟩ := by
      unfold source; rw [dif_neg (by omega), dif_neg (by omega)]; apply Fin.ext; dsimp only; omega
    rw [pay9_apply, ld_scale x2 _ _ ⟨4, by norm_num⟩ ⟨t.val, ht⟩ (off9_eq t), ld_rows x1 _ _ _ 512 t.val (off10_eq t) _ (source r) c (by rw [es]; rfl) h1, weight]
    congr 3
    · apply Fin.ext; rw [es]; dsimp only; omega
    · apply Fin.ext; dsimp only; omega
  refine View.allAt_cons_unit _ _ _ _ _ (piece_at (R := 32) _ _ 512 t.val (off11_eq t) r c _ fun i k h0 h1 => ?_) ?_
  · have hk := k.isLt; have hi := i.isLt
    have es : source r = ⟨512 + 2 * i.val, by omega⟩ := by
      unfold source; rw [dif_neg (by omega), dif_pos (by omega)]; apply Fin.ext; dsimp only; omega
    rw [pay8_apply, ld_scale x2 _ _ ⟨4, by norm_num⟩ ⟨t.val, ht⟩ (off9_eq t), ld_rows x1 _ _ _ 512 t.val (off10_eq t) _ (source r) c (by rw [es]; rfl) h1, weight]
    congr 3
    · apply Fin.ext; rw [es]; dsimp only; omega
    · apply Fin.ext; dsimp only; omega
  refine View.allAt_cons_unit _ _ _ _ _ (piece_at (R := 128) _ _ 384 t.val (off8_eq t) r c _ fun i k h0 h1 => ?_) ?_
  · have hk := k.isLt; have hi := i.isLt
    have es : source r = r := by unfold source; rw [dif_pos (by omega)]
    rw [pay6_apply, ld_scale x2 _ _ ⟨3, by norm_num⟩ ⟨t.val, ht⟩ (off7_eq t), ld_rows x1 _ _ _ 384 t.val (off8_eq t) _ r c h0 h1, es, weight]
    congr 3
    · apply Fin.ext; dsimp only; omega
    · apply Fin.ext; dsimp only; omega
  refine View.allAt_cons_unit _ _ _ _ _ (piece_at (R := 128) _ _ 256 t.val (off6_eq t) r c _ fun i k h0 h1 => ?_) ?_
  · have hk := k.isLt; have hi := i.isLt
    have es : source r = r := by unfold source; rw [dif_pos (by omega)]
    rw [pay4_apply, ld_scale x2 _ _ ⟨2, by norm_num⟩ ⟨t.val, ht⟩ (off5_eq t), ld_rows x1 _ _ _ 256 t.val (off6_eq t) _ r c h0 h1, es, weight]
    congr 3
    · apply Fin.ext; dsimp only; omega
    · apply Fin.ext; dsimp only; omega
  refine View.allAt_cons_unit _ _ _ _ _ (piece_at (R := 128) _ _ 128 t.val (off4_eq t) r c _ fun i k h0 h1 => ?_) ?_
  · have hk := k.isLt; have hi := i.isLt
    have es : source r = r := by unfold source; rw [dif_pos (by omega)]
    rw [pay3_apply, ld_scale x2 _ _ ⟨1, by norm_num⟩ ⟨t.val, ht⟩ (off3_eq t), ld_rows x1 _ _ _ 128 t.val (off4_eq t) _ r c h0 h1, es, weight]
    congr 3
    · apply Fin.ext; dsimp only; omega
    · apply Fin.ext; dsimp only; omega
  refine View.allAt_cons_unit _ _ _ _ _ (piece_at (R := 128) _ _ 0 t.val (off2_eq t) r c _ fun i k h0 h1 => ?_) (View.allAt_nil _ _)
  have hk := k.isLt; have hi := i.isLt
  have es : source r = r := by unfold source; rw [dif_pos (by omega)]
  rw [pay2_apply, ld_scale x2 _ _ ⟨0, by norm_num⟩ ⟨t.val, ht⟩ (off1_eq t), ld_rows x1 _ _ _ 0 t.val (off2_eq t) _ r c h0 h1, es, weight]
  congr 3
  · apply Fin.ext; dsimp only; omega
  · apply Fin.ext; dsimp only; omega

theorem wtiles_at (x1 : Vec Ideal S576x5120 .fp8e4m3) (x2 : Vec Ideal S5x40 .f32) (r : Fin 576) (c : Fin 5120) :
    ∀ (n : ℕ) (h : n ≤ k0_t1_loop.trips), View.AllAt (wtiles x1 x2 n h) (ix2 r c) (weight x1 x2 (source r) c)
  | 0, _ => View.allAt_nil _ _
  | n + 1, h => fun p hp => by
    rw [wtiles, List.mem_append] at hp
    rcases hp with hp | hp
    · exact wtrip_at x1 x2 ⟨n, h⟩ r c p hp
    · exact wtiles_at x1 x2 r c n _ p hp

theorem wprep_apply (x1 : Vec Ideal S576x5120 .fp8e4m3) (x2 : Vec Ideal S5x40 .f32) (r : Fin 576) (c : Fin 5120) :
    wprep x1 x2 (ix2 r c) = weight x1 x2 (source r) c :=
  View.canon_eq_of_allAt _ _ _ (wtiles_cover x1 x2 _) (wtiles_at x1 x2 r c _ le_rfl)

/-! ## The projection -/

theorem out6_apply (x0 : Vec Ideal S512x5120 .bf16) (x3 : Vec Ideal S1x512 .bf16) (w : Vec Ideal S576x5120 .bf16) (r : Fin 512) (k : Fin 512) :
    out6 x0 x3 w (ix2 r k) = (∑ x : Fin 5120, w (ix2 ⟨k.val, by have := k.isLt; omega⟩ x) * xdq x0 (ix2 r x))
      * Ideal.rsqrt (Ideal.div (∑ j : Fin 512, (∑ x : Fin 5120, w (ix2 ⟨j.val, by have := j.isLt; omega⟩ x) * xdq x0 (ix2 r x))
          * (∑ x : Fin 5120, w (ix2 ⟨j.val, by have := j.isLt; omega⟩ x) * xdq x0 (ix2 r x))) (Ideal.ofBits .f32 1140850688#32) + Ideal.ofBits .f32 897988541#32)
      * x3 (ix2 0 k) := by
  unfold out6
  pointwise [k0_pay300, k0_pay299]

/-! ## The rotation at position zero -/

section Zero
variable (p : Vec Ideal S1x512 .i32) (f : Vec Ideal S32x1 .f32) (i : Fin 32) (t : Fin 512) (hp : p (ix2 0 t) = 0#32)
include hp
theorem pay301_zero : k0_pay301 p f (ix2 i t) = 0 := by
  have : k0_pay301 (F := Ideal) p f (ix2 i t) = (FloatOps.sitofp .f32 (p (ix2 0 t)) : Ideal .f32) * f (ix2 i 0) := by
    pointwise [k0_pay301]
  rw [this, hp]
  show (((0#32 : BitVec 32).toInt : ℝ) : EReal) * _ = 0
  simp
theorem round_zero : Ideal.liftRound Ideal.roundHalfEven 0 = 0 := by
  have h : Ideal.liftRound Ideal.roundHalfEven ((0 : ℝ) : EReal) = (((Ideal.roundHalfEven 0 : ℤ) : ℝ) : EReal) := rfl
  rw [show (0 : EReal) = ((0 : ℝ) : EReal) from rfl, h]
  norm_num [Ideal.roundHalfEven]
theorem pay302_zero : k0_pay302 p f (ix2 i t) = 0 := by
  have : ∀ v : FVec Ideal S32x512 .f32, v (ix2 i t) = 0 → roundeven (mulf v (broadcast S32x512 (Scalar.ofBits .f32 0x3F22F983#32))) (ix2 i t) = 0 := by
    intro v hv
    pointwise [hv]
    rw [zero_mul]; exact round_zero p t hp
  exact this _ (pay301_zero p f i t hp)
theorem pay303_zero : k0_pay303 p f (ix2 i t) = 0 := by
  have e1 := pay301_zero p f i t hp
  have e2 := pay302_zero p f i t hp
  pointwise [k0_pay303, e1, e2]
  simp
theorem pay304_zero : k0_pay304 p f (ix2 i t) = 0#32 := by
  have e2 := pay302_zero p f i t hp
  pointwise [k0_pay304, e2]
  show BitVec.ofInt 32 (max (-2147483648) (min 2147483647 (if (0 : ℝ) ≤ 0 then ⌊(0 : ℝ)⌋ else ⌈(0 : ℝ)⌉))) = 0#32
  simp
theorem pay305_zero : k0_pay305 p f (ix2 i t) = 0 := by
  have e1 := pay303_zero p f i t hp
  pointwise [k0_pay305, e1]
  simp
theorem pay306_zero : k0_pay306 p f (ix2 i t) = 0 := by
  have e1 := pay303_zero p f i t hp
  have e2 := pay305_zero p f i t hp
  pointwise [k0_pay306, e1, e2]
  simp
theorem pay307_one : k0_pay307 p f (ix2 i t) = 1 := by
  have e2 := pay305_zero p f i t hp
  pointwise [k0_pay307, e2]
  simp
theorem pay308_zero : k0_pay308 p f (ix2 i t) = 0 := by
  have e2 := pay305_zero p f i t hp
  pointwise [k0_pay308, e2]
  simp
theorem pay309_zero : k0_pay309 p f (ix2 i t) = 0 := by
  have e2 := pay305_zero p f i t hp
  pointwise [k0_pay309, e2]
  simp
end Zero

theorem pay312_zero (a b c d e) (i : Fin 32) (t : Fin 512) (ha : a (ix2 i t) = 0#32) : k0_pay312 (F := Ideal) a b c d e (ix2 i t) = b (ix2 i t) := by
  pointwise [k0_pay312, k0_pay311, k0_pay310, ha]
  rfl
theorem pay313_zero (a b c d e) (i : Fin 32) (t : Fin 512) (ha : a (ix2 i t) = 0#32) (hd : d (ix2 i t) = (0 : EReal)) :
    k0_pay313 (F := Ideal) a b c d e (ix2 i t) = c (ix2 i t) := by
  pointwise [k0_pay313, k0_pay311, k0_pay310, ha, hd]
  rw [zero_mul, add_zero]
  rfl
theorem pay314_zero (a) (i : Fin 32) (t : Fin 512) (ha : a (ix2 i t) = 0#32) : k0_pay314 a (ix2 i t) = 0#32 := by
  pointwise [k0_pay314, ha]
  rfl

/-- At position zero the rotated pair is the pair. -/
theorem rot_zero (y : FVec Ideal S576x512 .f32) (p : Vec Ideal S1x512 .i32) (f : Vec Ideal S32x1 .f32) (t : Fin 512) (hp : p (ix2 0 t) = 0#32) (i : Fin 64) :
    rot y p f (ix2 t i) = if i.val % 2 = 0 then y (ix2 ⟨512 + i.val / 2, by have := i.isLt; omega⟩ t) else y (ix2 ⟨544 + i.val / 2, by have := i.isLt; omega⟩ t) := by
  let j : Fin 32 := ⟨i.val / 2, by have := i.isLt; omega⟩
  have ea := pay304_zero p f j t hp
  have es : k0_pay312 (k0_pay304 p f) (k0_pay306 p f) (k0_pay307 p f) (k0_pay308 p f) (k0_pay309 p f) (ix2 j t) = (0 : EReal) :=
    (pay312_zero _ _ _ _ _ j t ea).trans (pay306_zero p f j t hp)
  have ec : k0_pay313 (k0_pay304 p f) (k0_pay306 p f) (k0_pay307 p f) (k0_pay308 p f) (k0_pay309 p f) (ix2 j t) = (1 : EReal) :=
    (pay313_zero _ _ _ _ _ j t ea (pay308_zero p f j t hp)).trans (pay307_one p f j t hp)
  have e4 := pay314_zero _ j t ea
  unfold rot
  generalize k0_pay304 p f = a at ea es ec e4 ⊢
  generalize k0_pay312 a (k0_pay306 p f) (k0_pay307 p f) (k0_pay308 p f) (k0_pay309 p f) = s at es ⊢
  generalize k0_pay313 a (k0_pay306 p f) (k0_pay307 p f) (k0_pay308 p f) (k0_pay309 p f) = c at ec ⊢
  generalize k0_pay314 a = d at e4 ⊢
  have key : ∀ n1 n2 : BitVec 1, n1 = 0#1 → n2 = 0#1 → ∀ u w : EReal,
      (u * Scalar.select n1 (0 - (1 : EReal)) 1 - w * Scalar.select n2 (0 - (0 : EReal)) 0 = u) ∧ (u * Scalar.select n2 (0 - (0 : EReal)) 0 + w * Scalar.select n1 (0 - (1 : EReal)) 1 = w) := by
    rintro _ _ rfl rfl u w
    have h1 : ∀ x y : EReal, Scalar.select 0#1 x y = y := fun _ _ => rfl
    rw [h1, h1]
    simp
  pointwise [k0_pay1]
  change a (ix2 ⟨i.val / 2, _⟩ t) = _ at ea
  change s (ix2 ⟨i.val / 2, _⟩ t) = _ at es
  change c (ix2 ⟨i.val / 2, _⟩ t) = _ at ec
  change d (ix2 ⟨i.val / 2, _⟩ t) = _ at e4
  rw [ea, es, ec, e4]
  split
  · exact (key _ _ (by decide) (by decide) _ _).1
  · exact (key _ _ (by decide) (by decide) _ _).2

theorem pay299_apply (w : Vec Ideal S576x5120 .bf16) (x : Vec Ideal S512x5120 .bf16) (k : Fin 576) (r : Fin 512) :
    k0_pay299 (F := Ideal) w x (ix2 k r) = ∑ j : Fin 5120, w (ix2 k j) * x (ix2 r j) := by
  pointwise [k0_pay299]

theorem out7_apply (i : grid0.Coords) (x0 : Vec Ideal S512x5120 .bf16) (x4 : Vec Ideal S6x2048 .i32) (x5 : Vec Ideal S32x128 .f32) (w : Vec Ideal S576x5120 .bf16)
    (r : Fin 512) (hp : View.ld x4 (Rect.unit (s := S6x2048) (k0_off13 i) S1x512.size (k0_off13_inb i)) (ix2 0 r) = 0#32) (k : Fin 64) :
    out7 i x0 x4 x5 w (ix2 r k) = ∑ j : Fin 5120, w (ix2 (if k.val % 2 = 0 then ⟨512 + k.val / 2, by have := k.isLt; omega⟩ else ⟨544 + k.val / 2, by have := k.isLt; omega⟩) j) * xdq x0 (ix2 r j) := by
  rw [out7, rot_zero _ _ _ r hp k]
  split <;> exact pay299_apply _ _ _ _

end Cert.KernelIdeal.Run

end
-- ==== Proof.KBody.lean ====
module

public import proofs.«01_k».proof.Proof.KRun
public import Idealize.ShloMosaic.Lib.Claim

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 4 % 6 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 24 = 0)

/-! ## The kernel body on any staging memrefs: a subtype the run finds -/

/-- Each window's current staging memref at point `t`, spelled as the pipeline passes it (`bodyAt0`), and its wholeness. -/
abbrev ms0_0 (t : Fin cfg0.N) : Memref sig .tc .vmem S512x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S576x5120 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S5x40 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S6x2048 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x64 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x5120 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x40 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S576x5120 .bf16 := Memref.whole cc0_scratch0
abbrev scM0_1 : Memref sig .tc .vmem S512x5120 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The pipeline's proof data -/

/-- The first point of the grid. -/
def t₀ : Fin cfg0.N := ⟨0, by rw [show cfg0.N = 24 from N_0]; omega⟩

/-- The weights the first point rebuilds and every point reads. -/
def wts (c : Dev nD) : Vec F S576x5120 .bf16 := wprep (iblk m c 1 t₀) (iblk m c 2 t₀)

/-- What is carried from point to point: after the first point the first scratch holds the weights. -/
def carried (c : Dev nD) (n : ℕ) : sProp 𝕄 :=
  if n = 0 then Pipeline.ΦA spec0 c
  else iprop(iprop(owns (c : Thread nD τ) scM0_0 fullShare (wts m c) ∗ (∃ d, owns (c : Thread nD τ) scM0_1 fullShare d)) ∗ (∃ r, prngReg c r))

theorem carried_zero (c : Dev nD) : carried m c 0 = (iprop(iprop((∃ d, owns (c : Thread nD τ) scM0_0 fullShare d) ∗ (∃ d, owns (c : Thread nD τ) scM0_1 fullShare d)) ∗ (∃ r, prngReg c r)) : sProp 𝕄) := by
  unfold carried; rw [if_pos rfl, PhiA0_eq]

theorem carried_pos (c : Dev nD) (n : ℕ) (h : n ≠ 0) : carried m c n
    = (iprop(iprop(owns (c : Thread nD τ) scM0_0 fullShare (wts m c) ∗ (∃ d, owns (c : Thread nD τ) scM0_1 fullShare d)) ∗ (∃ r, prngReg c r)) : sProp 𝕄) := by
  unfold carried; rw [if_neg h]

/-- The proof data of the pipeline on core `c`: after the body at point `t` each input's buffer holds its block and each
    output's what the body computes from the blocks and the weights. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 3 t) (wts m c)
    | ⟨7, _⟩ => out7 (grid0.coords t) (iblk m c 0 t) (iblk m c 4 t) (iblk m c 5 t) (wts m c)
    | ⟨8, _⟩ => out8 (iblk m c 0 t)
    | ⟨9, _⟩ => out9 (iblk m c 0 t)
  Φ t := carried m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 (iblk m c 0 t) (iblk m c 3 t) (wts m c) := by dsimp only [dats]
theorem after0_7 (c : Dev nD) (t : Fin cfg0.N) : (dats m 0 c).after 7 t = out7 (grid0.coords t) (iblk m c 0 t) (iblk m c 4 t) (iblk m c 5 t) (wts m c) := by dsimp only [dats]
theorem after0_8 (c : Dev nD) (t : Fin cfg0.N) : (dats m 0 c).after 8 t = out8 (iblk m c 0 t) := by dsimp only [dats]
theorem after0_9 (c : Dev nD) (t : Fin cfg0.N) : (dats m 0 c).after 9 t = out9 (iblk m c 0 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 2400000 in
/-- The body at any point: the first point rebuilds the weights, every other finds them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = carried m c (t.val + 1) from rfl, carried_pos m c _ (Nat.succ_ne_zero _),
    show (dats m 0 c).owesAt () t.succ = (dats m 0 c).owesAt () t.castSucc from rfl,
    after0_0, after0_1, after0_2, after0_3, after0_4, after0_5, after0_6, after0_7, after0_8, after0_9]
  rw [show (dats m 0 c).Φ t.castSucc = carried m c t.val from rfl]
  have hN : t.val < 24 := lt_of_lt_of_eq t.isLt (show cfg0.N = 24 from N_0)
  by_cases h0 : t.val % 24 = 0
  · have ht : t = t₀ := Fin.ext (show t.val = 0 by omega)
    rw [show t.val = 0 by omega, carried_zero]
    have hw : wts m c = wprep (iblk m c 1 t) (iblk m c 2 t) := by rw [ht]; rfl
    rw [hw]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((run_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [carried_pos m c t.val (by omega)]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((run_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (wts m c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every array of the pipeline at what the proof data says, every counter zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [show (dats m 0 c).Φ 0 = Pipeline.ΦA spec0 c from rfl])
    (hout := fun c => by
      rw [show (dats m 0 c).Φ (Fin.last cfg0.N) = carried m c cfg0.N from rfl, carried_pos m c _ (by rw [show cfg0.N = 24 from N_0]; omega), PhiA0_eq]
      iintro ⟨⟨HS0, HS1⟩, Hg⟩
      isplitl [HS0 HS1]
      · isplitl [HS0]
        · iexists _; iexact HS0
        iexact HS1
      iexact Hg)

theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Run

end
-- ==== Proof.KArr.lean ====
/-
  The four result arrays of the kernel's run, entry by entry, from the argument arrays.
-/
module

public import proofs.«01_k».proof.Proof.KVal
public import proofs.«01_k».proof.Proof.KBody
public import Idealize.ShloMosaic.Lib.StableHlo.ReadAt

@[expose] public section

set_option maxRecDepth 16384

noncomputable section

namespace Cert.KernelIdeal.Run

open Idealize.ShloMosaic Idealize.ShloMosaic.TcCoe Idealize.SL.Sem Cert.KernelIdeal Cert.KernelIdeal.Gen Cert.Blocks
open Idealize.ShloMosaic.Pipeline (Dat)

variable (m : (ℓ : Loc nD τ sig) → Buf (Elt Ideal) ℓ) (ρ : Dev nD → PrngReg) (c : Dev nD)

/-! ## The arrays the pipeline reads -/

theorem V_x (r : Fin 12288) (k : Fin 5120) : V m c main_v1 (ix2 r k) = m ((c : Thread nD τ).loc main_arg0) (ix3 ⟨r.val / 2048, by have := r.isLt; omega⟩ ⟨r.val % 2048, by omega⟩ k) := by
  unfold V
  after_reads_at

theorem V_gamma (k : Fin 512) : V m c main_v2 (ix2 0 k) = m ((c : Thread nD τ).loc main_arg3) (ix1 k) := by
  unfold V
  after_reads_at

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = 0 ∧ win0_2.index t 1 = 0 := by decide +kernel
theorem index_3 : ∀ t : Fin grid0.N, win0_3.index t 0 = 0 ∧ win0_3.index t 1 = 0 := by decide +kernel
theorem index_4 : ∀ t : Fin grid0.N, win0_4.index t 0 = 0 ∧ win0_4.index t 1 = 0 := by decide +kernel
theorem index_6 : ∀ t : Fin grid0.N, win0_6.index t 0 = t.val ∧ win0_6.index t 1 = 0 := by decide +kernel
theorem index_7 : ∀ t : Fin grid0.N, win0_7.index t 0 = t.val ∧ win0_7.index t 1 = 0 := by decide +kernel
theorem index_8 : ∀ t : Fin grid0.N, win0_8.index t 0 = t.val ∧ win0_8.index t 1 = 0 := by decide +kernel
theorem index_9 : ∀ t : Fin grid0.N, win0_9.index t 0 = t.val ∧ win0_9.index t 1 = 0 := by decide +kernel
theorem off13_eq : ∀ t : Fin grid0.N, k0_off13 (grid0.coords t) = ![t.val / 4, 512 * (t.val % 4)] := by decide +kernel

theorem lt24 (t : Fin cfg0.N) : t.val < 24 := Nat.lt_of_lt_of_eq t.isLt N_0

/-- Token `r` of tile `t`. -/
abbrev tok (t : Fin cfg0.N) (r : Fin 512) : Fin 12288 := ⟨512 * t.val + r.val, by have := lt24 t; have := r.isLt; omega⟩

theorem iblk_x (t : Fin cfg0.N) (r : Fin 512) (k : Fin 5120) : (iblk m c 0 t : Vec Ideal S512x5120 .bf16) (ix2 r k) = V m c main_v1 (ix2 (tok t r) k) := by
  unfold iblk
  rw [View.read_apply]
  show V m c main_v1 _ = V m c main_v1 _
  congr 1
  funext a
  apply Fin.ext
  match a with
  | ⟨0, _⟩ => show win0_0.index t 0 * 512 + 1 * r.val = 512 * t.val + r.val; rw [(index_0 t).1]; omega
  | ⟨1, _⟩ => show win0_0.index t 1 * 5120 + 1 * k.val = k.val; rw [(index_0 t).2]; omega

theorem iblk_w (t : Fin cfg0.N) (r : Fin 576) (k : Fin 5120) : (iblk m c 1 t : Vec Ideal S576x5120 .fp8e4m3) (ix2 r k) = m ((c : Thread nD τ).loc main_arg1) (ix2 r k) := by
  unfold iblk
  rw [View.read_apply, ← V_main_arg1 m c]
  show V m c main_arg1 _ = V m c main_arg1 _
  congr 1
  funext a
  apply Fin.ext
  match a with
  | ⟨0, _⟩ => show win0_1.index t 0 * 576 + 1 * r.val = r.val; rw [(index_1 t).1]; omega
  | ⟨1, _⟩ => show win0_1.index t 1 * 5120 + 1 * k.val = k.val; rw [(index_1 t).2]; omega

theorem iblk_s (t : Fin cfg0.N) (r : Fin 5) (k : Fin 40) : (iblk m c 2 t : Vec Ideal S5x40 .f32) (ix2 r k) = m ((c : Thread nD τ).loc main_arg2) (ix2 r k) := by
  unfold iblk
  rw [View.read_apply, ← V_main_arg2 m c]
  show V m c main_arg2 _ = V m c main_arg2 _
  congr 1
  funext a
  apply Fin.ext
  match a with
  | ⟨0, _⟩ => show win0_2.index t 0 * 5 + 1 * r.val = r.val; rw [(index_2 t).1]; omega
  | ⟨1, _⟩ => show win0_2.index t 1 * 40 + 1 * k.val = k.val; rw [(index_2 t).2]; omega

theorem iblk_gamma (t : Fin cfg0.N) (k : Fin 512) : (iblk m c 3 t : Vec Ideal S1x512 .bf16) (ix2 0 k) = m ((c : Thread nD τ).loc main_arg3) (ix1 k) := by
  rw [← V_gamma m c k]
  unfold iblk
  rw [View.read_apply]
  show V m c main_v2 _ = V m c main_v2 _
  congr 1
  funext a
  apply Fin.ext
  match a with
  | ⟨0, _⟩ => show win0_3.index t 0 * 1 + 1 * 0 = 0; rw [(index_3 t).1]
  | ⟨1, _⟩ => show win0_3.index t 1 * 512 + 1 * k.val = k.val; rw [(index_3 t).2]; omega

theorem iblk_pos (t : Fin cfg0.N) (b : Fin 6) (s : Fin 2048) : (iblk m c 4 t : Vec Ideal S6x2048 .i32) (ix2 b s) = m ((c : Thread nD τ).loc main_arg4) (ix2 b s) := by
  unfold iblk
  rw [View.read_apply, ← V_main_arg4 m c]
  show V m c main_arg4 _ = V m c main_arg4 _
  congr 1
  funext a
  apply Fin.ext
  match a with
  | ⟨0, _⟩ => show win0_4.index t 0 * 6 + 1 * b.val = b.val; rw [(index_4 t).1]; omega
  | ⟨1, _⟩ => show win0_4.index t 1 * 2048 + 1 * s.val = s.val; rw [(index_4 t).2]; omega

/-! ## The results as functions of the arguments -/

/-- Block `g` of token `r`. -/
def xblock (r : Fin 12288) (g : Fin 40) : Fin 128 → EReal := fun k =>
  m ((c : Thread nD τ).loc main_arg0) (ix3 ⟨r.val / 2048, by have := r.isLt; omega⟩ ⟨r.val % 2048, by omega⟩ ⟨g.val * 128 + k.val, by have := g.isLt; have := k.isLt; omega⟩)

/-- Token `r` rebuilt, feature `k`. -/
def xhat (r : Fin 12288) (k : Fin 5120) : EReal := rebuilt (xblock m c r ⟨k.val / 128, by have := k.isLt; omega⟩) ⟨k.val % 128, by omega⟩

/-- The weights, row `r`, feature `k`. -/
def what (r : Fin 576) (k : Fin 5120) : EReal :=
  weight (m ((c : Thread nD τ).loc main_arg1)) (m ((c : Thread nD τ).loc main_arg2)) r k

/-- Token `r`'s projection on row `k` of the weights. -/
def proj (r : Fin 12288) (k : Fin 576) : EReal := ∑ j : Fin 5120, what m c k j * xhat m c r j

theorem blockOf_eq (t : Fin cfg0.N) (r : Fin 512) (g : Fin 40) : blockOf (iblk m c 0 t) r g = xblock m c (tok t r) g := by
  funext k
  unfold blockOf
  rw [iblk_x, V_x]
  rfl

theorem xdq_eq (t : Fin cfg0.N) (r : Fin 512) (k : Fin 5120) : xdq (iblk m c 0 t) (ix2 r k) = xhat m c (tok t r) k := by
  rw [xdq_apply, blockOf_eq]; rfl

theorem wts_eq (r : Fin 576) (k : Fin 5120) : wts m c (ix2 r k) = what m c (source r) k := by
  unfold wts
  rw [wprep_apply, weight, iblk_w, iblk_s]; rfl

/-- A place in the results: its tile and its token in the tile. -/
def tileOf (r : Fin 12288) : Fin cfg0.N := ⟨r.val / 512, by rw [show cfg0.N = 24 from N_0]; have := r.isLt; omega⟩
def rowOf (r : Fin 12288) : Fin 512 := ⟨r.val % 512, by omega⟩

theorem tok_of (r : Fin 12288) : tok (tileOf r) (rowOf r) = r := Fin.ext (by show 512 * (r.val / 512) + r.val % 512 = r.val; omega)
theorem tileOf_tok (t : Fin cfg0.N) (r : Fin 512) : tileOf (tok t r) = t := Fin.ext (by show (512 * t.val + r.val) / 512 = t.val; have := r.isLt; omega)
theorem rowOf_tok (t : Fin cfg0.N) (r : Fin 512) : rowOf (tok t r) = r := Fin.ext (by show (512 * t.val + r.val) % 512 = r.val; have := r.isLt; omega)

/-- An array of results whose tile `t` is `f t`. -/
def tiled {C : ℕ} {e : EltTy} (f : Fin cfg0.N → Vec Ideal ⟨2, ![512, C]⟩ e) : Vec Ideal ⟨2, ![12288, C]⟩ e :=
  fun i => f (tileOf (i 0)) (ix2 (rowOf (i 0)) (i 1))

theorem tiled_tok {C : ℕ} {e : EltTy} (f : Fin cfg0.N → Vec Ideal ⟨2, ![512, C]⟩ e) (t : Fin cfg0.N) (x : Shape.Idx ⟨2, ![512, C]⟩) (i : Shape.Idx ⟨2, ![12288, C]⟩)
    (h0 : (i 0).val = 512 * t.val + (x 0).val) (h1 : (i 1).val = (x 1).val) : tiled f i = f t x := by
  have e0 : i 0 = tok t (x 0) := Fin.ext h0
  have e1 : i 1 = x 1 := Fin.ext h1
  unfold tiled
  rw [e0, e1]
  exact (congrArg₂ (fun a b => f a (ix2 b (x 1))) (tileOf_tok t (x 0)) (rowOf_tok t (x 0))).trans (congrArg (f t) (idx_eta x).symm)

def res6 : Vec Ideal S12288x512 .bf16 := tiled fun t => out6 (iblk m c 0 t) (iblk m c 3 t) (wts m c)
def res7 : Vec Ideal S12288x64 .bf16 := tiled fun t => out7 (grid0.coords t) (iblk m c 0 t) (iblk m c 4 t) (iblk m c 5 t) (wts m c)
def res8 : Vec Ideal S12288x5120 .fp8e4m3 := tiled fun t => out8 (iblk m c 0 t)
def res9 : Vec Ideal S12288x40 .f32 := tiled fun t => out9 (iblk m c 0 t)

theorem final_6 : (dats m 0 c).arrAt 6 cfg0.N = res6 m c :=
  (dats m 0 c).arrAt_eq_of_cover 6 (res6 m c) (fun t _ => by
    show (cfg0.win 6).cut (grid0.coords t) ((dats m 0 c).after 6 t) = _
    rw [after0_6]
    funext x
    rw [View.read_apply]
    refine (tiled_tok (C := 512) (fun t => out6 (iblk m c 0 t) (iblk m c 3 t) (wts m c)) t x _ ?_ ?_).symm
    · show win0_6.index t 0 * 512 + 1 * (x 0).val = 512 * t.val + (x 0).val; rw [(index_6 t).1]; omega
    · show win0_6.index t 1 * 512 + 1 * (x 1).val = (x 1).val; rw [(index_6 t).2]; omega)
  fun i => ⟨tileOf (i 0), flush0_6 _, by
    show i ∈ ((View.whole main_v3_0).slice (win0_6.rect (tileOf (i 0)))).set
    rw [View.set_slice_whole, Rect.mem_set_unit]
    have h0 : (i 0 : Nat) < 12288 := (i 0).isLt
    have h1 : (i 1 : Nat) < 512 := (i 1).isLt
    intro a
    match a with
    | ⟨0, _⟩ =>
      show win0_6.index (tileOf (i 0)) 0 * 512 ≤ (i 0 : Nat) ∧ (i 0 : Nat) < win0_6.index (tileOf (i 0)) 0 * 512 + 512
      rw [(index_6 _).1]; show (i 0).val / 512 * 512 ≤ (i 0).val ∧ (i 0).val < (i 0).val / 512 * 512 + 512; omega
    | ⟨1, _⟩ =>
      show win0_6.index (tileOf (i 0)) 1 * 512 ≤ (i 1 : Nat) ∧ (i 1 : Nat) < win0_6.index (tileOf (i 0)) 1 * 512 + 512
      rw [(index_6 _).2]; omega⟩

theorem final_7 : (dats m 0 c).arrAt 7 cfg0.N = res7 m c :=
  (dats m 0 c).arrAt_eq_of_cover 7 (res7 m c) (fun t _ => by
    show (cfg0.win 7).cut (grid0.coords t) ((dats m 0 c).after 7 t) = _
    rw [after0_7]
    funext x
    rw [View.read_apply]
    refine (tiled_tok (C := 64) (fun t => out7 (grid0.coords t) (iblk m c 0 t) (iblk m c 4 t) (iblk m c 5 t) (wts m c)) t x _ ?_ ?_).symm
    · show win0_7.index t 0 * 512 + 1 * (x 0).val = 512 * t.val + (x 0).val; rw [(index_7 t).1]; omega
    · show win0_7.index t 1 * 64 + 1 * (x 1).val = (x 1).val; rw [(index_7 t).2]; omega)
  fun i => ⟨tileOf (i 0), flush0_7 _, by
    show i ∈ ((View.whole main_v3_1).slice (win0_7.rect (tileOf (i 0)))).set
    rw [View.set_slice_whole, Rect.mem_set_unit]
    have h0 : (i 0 : Nat) < 12288 := (i 0).isLt
    have h1 : (i 1 : Nat) < 64 := (i 1).isLt
    intro a
    match a with
    | ⟨0, _⟩ =>
      show win0_7.index (tileOf (i 0)) 0 * 512 ≤ (i 0 : Nat) ∧ (i 0 : Nat) < win0_7.index (tileOf (i 0)) 0 * 512 + 512
      rw [(index_7 _).1]; show (i 0).val / 512 * 512 ≤ (i 0).val ∧ (i 0).val < (i 0).val / 512 * 512 + 512; omega
    | ⟨1, _⟩ =>
      show win0_7.index (tileOf (i 0)) 1 * 64 ≤ (i 1 : Nat) ∧ (i 1 : Nat) < win0_7.index (tileOf (i 0)) 1 * 64 + 64
      rw [(index_7 _).2]; omega⟩

theorem final_8 : (dats m 0 c).arrAt 8 cfg0.N = res8 m c :=
  (dats m 0 c).arrAt_eq_of_cover 8 (res8 m c) (fun t _ => by
    show (cfg0.win 8).cut (grid0.coords t) ((dats m 0 c).after 8 t) = _
    rw [after0_8]
    funext x
    rw [View.read_apply]
    refine (tiled_tok (C := 5120) (fun t => out8 (iblk m c 0 t)) t x _ ?_ ?_).symm
    · show win0_8.index t 0 * 512 + 1 * (x 0).val = 512 * t.val + (x 0).val; rw [(index_8 t).1]; omega
    · show win0_8.index t 1 * 5120 + 1 * (x 1).val = (x 1).val; rw [(index_8 t).2]; omega)
  fun i => ⟨tileOf (i 0), flush0_8 _, by
    show i ∈ ((View.whole main_v3_2).slice (win0_8.rect (tileOf (i 0)))).set
    rw [View.set_slice_whole, Rect.mem_set_unit]
    have h0 : (i 0 : Nat) < 12288 := (i 0).isLt
    have h1 : (i 1 : Nat) < 5120 := (i 1).isLt
    intro a
    match a with
    | ⟨0, _⟩ =>
      show win0_8.index (tileOf (i 0)) 0 * 512 ≤ (i 0 : Nat) ∧ (i 0 : Nat) < win0_8.index (tileOf (i 0)) 0 * 512 + 512
      rw [(index_8 _).1]; show (i 0).val / 512 * 512 ≤ (i 0).val ∧ (i 0).val < (i 0).val / 512 * 512 + 512; omega
    | ⟨1, _⟩ =>
      show win0_8.index (tileOf (i 0)) 1 * 5120 ≤ (i 1 : Nat) ∧ (i 1 : Nat) < win0_8.index (tileOf (i 0)) 1 * 5120 + 5120
      rw [(index_8 _).2]; omega⟩

theorem final_9 : (dats m 0 c).arrAt 9 cfg0.N = res9 m c :=
  (dats m 0 c).arrAt_eq_of_cover 9 (res9 m c) (fun t _ => by
    show (cfg0.win 9).cut (grid0.coords t) ((dats m 0 c).after 9 t) = _
    rw [after0_9]
    funext x
    rw [View.read_apply]
    refine (tiled_tok (C := 40) (fun t => out9 (iblk m c 0 t)) t x _ ?_ ?_).symm
    · show win0_9.index t 0 * 512 + 1 * (x 0).val = 512 * t.val + (x 0).val; rw [(index_9 t).1]; omega
    · show win0_9.index t 1 * 40 + 1 * (x 1).val = (x 1).val; rw [(index_9 t).2]; omega)
  fun i => ⟨tileOf (i 0), flush0_9 _, by
    show i ∈ ((View.whole main_v3_3).slice (win0_9.rect (tileOf (i 0)))).set
    rw [View.set_slice_whole, Rect.mem_set_unit]
    have h0 : (i 0 : Nat) < 12288 := (i 0).isLt
    have h1 : (i 1 : Nat) < 40 := (i 1).isLt
    intro a
    match a with
    | ⟨0, _⟩ =>
      show win0_9.index (tileOf (i 0)) 0 * 512 ≤ (i 0 : Nat) ∧ (i 0 : Nat) < win0_9.index (tileOf (i 0)) 0 * 512 + 512
      rw [(index_9 _).1]; show (i 0).val / 512 * 512 ≤ (i 0).val ∧ (i 0).val < (i 0).val / 512 * 512 + 512; omega
    | ⟨1, _⟩ =>
      show win0_9.index (tileOf (i 0)) 1 * 40 ≤ (i 1 : Nat) ∧ (i 1 : Nat) < win0_9.index (tileOf (i 0)) 1 * 40 + 40
      rw [(index_9 _).2]; omega⟩

/-! ## The entries -/

theorem res6_at (r : Fin 12288) (k : Fin 512) : res6 m c (ix2 r k) =
    (∑ j : Fin 5120, what m c ⟨k.val, by have := k.isLt; omega⟩ j * xhat m c r j) *
      Ideal.rsqrt (Ideal.div (∑ q : Fin 512, (∑ j : Fin 5120, what m c ⟨q.val, by have := q.isLt; omega⟩ j * xhat m c r j) * (∑ j : Fin 5120, what m c ⟨q.val, by have := q.isLt; omega⟩ j * xhat m c r j)) (Ideal.ofBits FTy.f32 1140850688#32) + Ideal.ofBits FTy.f32 897988541#32) *
      m ((c : Thread nD τ).loc main_arg3) (ix1 k) := by
  show out6 (iblk m c 0 (tileOf r)) (iblk m c 3 (tileOf r)) (wts m c) (ix2 (rowOf r) k) = _
  rw [out6_apply, iblk_gamma]
  have e : ∀ (q : Fin 512), (∑ j : Fin 5120, wts m c (ix2 ⟨q.val, by have := q.isLt; omega⟩ j) * xdq (iblk m c 0 (tileOf r)) (ix2 (rowOf r) j)) =
      ∑ j : Fin 5120, what m c ⟨q.val, by have := q.isLt; omega⟩ j * xhat m c r j := fun q => Finset.sum_congr rfl fun j _ => by
    rw [wts_eq, xdq_eq, tok_of]
    congr 2
    unfold source
    rw [dif_pos (show q.val < 512 from q.isLt)]
  simp only [e]

theorem res7_at (r : Fin 12288) (k : Fin 64) (hp : m ((c : Thread nD τ).loc main_arg4) (ix2 ⟨r.val / 2048, by have := r.isLt; omega⟩ ⟨r.val % 2048, by omega⟩) = 0#32) :
    res7 m c (ix2 r k) = ∑ j : Fin 5120, what m c ⟨512 + k.val, by have := k.isLt; omega⟩ j * xhat m c r j := by
  show out7 (grid0.coords (tileOf r)) (iblk m c 0 (tileOf r)) (iblk m c 4 (tileOf r)) (iblk m c 5 (tileOf r)) (wts m c) (ix2 (rowOf r) k) = _
  rw [out7_apply _ _ _ _ _ _ ?_ k]
  · refine Finset.sum_congr rfl fun j _ => ?_
    rw [wts_eq, xdq_eq, tok_of]
    congr 2
    have hk := k.isLt
    by_cases h : k.val % 2 = 0
    · rw [if_pos h]
      unfold source
      rw [dif_neg (show ¬ 512 + k.val / 2 < 512 by omega), dif_pos (show 512 + k.val / 2 < 544 by omega)]
      apply Fin.ext
      show 512 + 2 * (512 + k.val / 2 - 512) = 512 + k.val
      omega
    · rw [if_neg h]
      unfold source
      rw [dif_neg (show ¬ 544 + k.val / 2 < 512 by omega), dif_neg (show ¬ 544 + k.val / 2 < 544 by omega)]
      apply Fin.ext
      show 512 + (2 * (544 + k.val / 2 - 544) + 1) = 512 + k.val
      omega
  · rw [← hp, ← iblk_pos m c (tileOf r)]
    apply View.ld_unit_apply_of
    intro a
    have e := congrFun (off13_eq (tileOf r)) a
    refine Eq.trans ?_ (congrArg (· + (ix2 (0 : Fin 1) (rowOf r) a).val) e.symm)
    have := r.isLt
    match a with
    | ⟨0, _⟩ => show r.val / 2048 = r.val / 512 / 4 + 0; omega
    | ⟨1, _⟩ => show r.val % 2048 = 512 * (r.val / 512 % 4) + r.val % 512; omega

theorem res8_at (r : Fin 12288) (k : Fin 5120) : res8 m c (ix2 r k) = code (xblock m c r ⟨k.val / 128, by have := k.isLt; omega⟩) ⟨k.val % 128, by omega⟩ := by
  show out8 (iblk m c 0 (tileOf r)) (ix2 (rowOf r) k) = _
  rw [out8_apply, blockOf_eq, tok_of]

theorem res9_at (r : Fin 12288) (g : Fin 40) : res9 m c (ix2 r g) = scaleOut (fieldWord (amax (xblock m c r g))) := by
  show out9 (iblk m c 0 (tileOf r)) (ix2 (rowOf r) g) = _
  rw [out9_apply, blockOf_eq, tok_of]

/-! ## The run -/

theorem run : θ_run (defs (F := Ideal)) (onTc (τ := τ) (main (F := Ideal))) (s₀ m ρ) fun r => ∀ c : Dev nD,
    r.2.mem ((c.tc : Thread nD τ).loc main_v3_0) = res6 m c ∧ r.2.mem ((c.tc : Thread nD τ).loc main_v3_1) = res7 m c ∧
    r.2.mem ((c.tc : Thread nD τ).loc main_v3_2) = res8 m c ∧ r.2.mem ((c.tc : Thread nD τ).loc main_v3_3) = res9 m c :=
  (θ_run defs _ _).mono (fun _ h c => ⟨((h c).1 6).trans (final_6 m c), ((h c).1 7).trans (final_7 m c), ((h c).1 8).trans (final_8 m c), ((h c).1 9).trans (final_9 m c)⟩) (run_main m ρ)

end Cert.KernelIdeal.Run

end
-- ==== Proof.RVal.lean ====
/-
  The reference's payloads, read entry by entry.
-/
module

public import proofs.«01_k».proof.Proof.Gen.ReferenceIdeal.Frame
public import proofs.«01_k».proof.Proof.Scaling
public import Idealize.ShloMosaic.Lib.Pointwise
public import Idealize.ShloMosaic.Lib.Pipeline.Value
public import Idealize.ShloMosaic.Lib.StableHlo.ReadAt

@[expose] public section

set_option maxRecDepth 16384

noncomputable section

namespace Cert.ReferenceIdeal.Run

open Idealize.ShloMosaic Idealize.ShloMosaic.TcCoe Idealize.SL.Sem Cert.ReferenceIdeal Cert.ReferenceIdeal.Gen Cert.Blocks
open Idealize.ShloMosaic.Pipeline (Dat)

/-! ## Quantising -/

/-- Block `g` of row `r`. -/
def rowBlock (x : Vec Ideal S12288x5120 .bf16) (r : Fin 12288) (g : Fin 40) : Fin 128 → EReal := fun k => x (ix2 r ⟨g.val * 128 + k.val, by have := g.isLt; have := k.isLt; omega⟩)

theorem pay2_at (x : Vec Ideal S12288x5120 .bf16) (r : Fin 12288) (g : Fin 40) (k : Fin 128) : k0_pay2 (F := Ideal) x (ix3 r g k) = rowBlock x r g k := by
  unfold rowBlock
  pointwise [k0_pay2]

/-- The largest magnitudes of the blocks of `v`. -/
def maxima (v : FVec Ideal S12288x40x128 .bf16) : FVec Ideal S12288x40 .f32 :=
  extf .f32 (multiReduction .maximumf [2] S12288x40 (absf v) 0xFF80#16 reduces_S12288x40x128_S12288x40 (.inr rfl) rfl) bitsLt_bf16_f32

theorem maxima_at (v : FVec Ideal S12288x40x128 .bf16) (r : Fin 12288) (g : Fin 40) : maxima v (ix2 r g) = amax fun k => v (ix3 r g k) := by
  unfold amax
  pointwise [maxima]

/-- The exponents of magnitudes `v`. -/
def exponents (v : FVec Ideal S12288x40 .f32) : FVec Ideal S12288x40 .f32 :=
  select (cmpf .oeq v (broadcast S12288x40 (Scalar.ofBits (F := Ideal) .f32 0x00000000#32))) (broadcast S12288x40 (Scalar.ofBits (F := Ideal) .f32 0x00000000#32))
    (addf (floor (divf (log (divf v (broadcast S12288x40 (Scalar.ofBits .f32 0x43E00000#32)))) (log (broadcast S12288x40 (Scalar.ofBits .f32 0x40000000#32))))) (broadcast S12288x40 (Scalar.ofBits .f32 0x3F800000#32)))

theorem exponents_at (v : FVec Ideal S12288x40 .f32) (r : Fin 12288) (g : Fin 40) : exponents v (ix2 r g) = refExp (v (ix2 r g)) := by
  unfold refExp
  pointwise [exponents]

theorem pay3_eq (x : Vec Ideal S12288x5120 .bf16) : k0_pay3 (F := Ideal) x = exponents (maxima (k0_pay2 (F := Ideal) x)) := rfl

theorem pay3_at (x : Vec Ideal S12288x5120 .bf16) (r : Fin 12288) (g : Fin 40) : k0_pay3 (F := Ideal) x (ix2 r g) = refExp (amax (rowBlock x r g)) := by
  rw [pay3_eq, exponents_at, maxima_at]
  congr 2
  funext k
  exact pay2_at x r g k

theorem exp2_at (v : FVec Ideal S12288x40 .f32) (i) : exp2 v i = Ideal.exp2 (v i) := rfl
theorem neg_at (v : FVec Ideal S12288x40 .f32) (i) : subf (broadcast S12288x40 (Scalar.ofBits (F := Ideal) .f32 0x00000000#32)) v i = Ideal.ofBits .f32 0x00000000#32 - v i := rfl

theorem pay4_at (x : Vec Ideal S12288x5120 .bf16) (r : Fin 12288) (g : Fin 40) : k0_pay4 (F := Ideal) x (ix2 r g) = refScale (rowBlock x r g) :=
  (exp2_at _ _).trans (congrArg Ideal.exp2 (pay3_at x r g))

/-- The codes of `v` at the inverse scales `s`. -/
def codes (v : FVec Ideal S12288x40x128 .bf16) (s : FVec Ideal S12288x40 .f32) : FVec Ideal S12288x40x128 .fp8e4m3 :=
  truncf .fp8e4m3 (minimumf (broadcast S12288x40x128 (Scalar.ofBits .bf16 0x43E0#16)) (maximumf (broadcast S12288x40x128 (Scalar.ofBits .bf16 0xC3E0#16))
    (mulf v (broadcastTo S12288x40x128 (shapeCast S12288x40x1 (truncf .bf16 s bitsLt_bf16_f32) shapeCasts_S12288x40_S12288x40x1) broadcasts_S12288x40x1_S12288x40x128)))) bitsLt_fp8e4m3_bf16

theorem codes_at (v : FVec Ideal S12288x40x128 .bf16) (s : FVec Ideal S12288x40 .f32) (r : Fin 12288) (g : Fin 40) (k : Fin 128) :
    codes v s (ix3 r g k) = clip (v (ix3 r g k) * s (ix2 r g)) := by
  unfold clip
  pointwise [codes]

theorem pay5_eq (x : Vec Ideal S12288x5120 .bf16) :
    k0_pay5 (F := Ideal) x = codes (k0_pay2 (F := Ideal) x) (exp2 (subf (broadcast S12288x40 (Scalar.ofBits (F := Ideal) .f32 0x00000000#32)) (k0_pay3 (F := Ideal) x))) := rfl

theorem pay5_at (x : Vec Ideal S12288x5120 .bf16) (r : Fin 12288) (g : Fin 40) (k : Fin 128) : k0_pay5 (F := Ideal) x (ix3 r g k) = refCode (rowBlock x r g) k := by
  rw [pay5_eq, codes_at, exp2_at, neg_at, pay3_at, pay2_at, refCode]
  congr 4
  simp [Ideal.ofBits, Ideal.ieee]

/-- Blocks laid out as rows. -/
theorem flat_at (v : FVec Ideal S12288x40x128 .fp8e4m3) (r : Fin 12288) (k : Fin 5120) :
    shapeCast S12288x5120 v shapeCasts_S12288x40x128_S12288x5120 (ix2 r k) = v (ix3 r ⟨k.val / 128, by have := k.isLt; omega⟩ ⟨k.val % 128, by omega⟩) := by
  pointwise []

theorem pay6_at (x : Vec Ideal S12288x5120 .bf16) (r : Fin 12288) (k : Fin 5120) :
    k0_pay6 (F := Ideal) x (ix2 r k) = refCode (rowBlock x r ⟨k.val / 128, by have := k.isLt; omega⟩) ⟨k.val % 128, by omega⟩ :=
  (flat_at _ r k).trans (pay5_at x r _ _)

/-- Codes times scales, laid out as rows. -/
def product (v : FVec Ideal S12288x40x128 .fp8e4m3) (s : FVec Ideal S12288x40 .f32) : FVec Ideal S12288x5120 .bf16 :=
  shapeCast S12288x5120 (mulf (extf .bf16 v bitsLt_fp8e4m3_bf16)
    (broadcastTo S12288x40x128 (shapeCast S12288x40x1 (truncf .bf16 s bitsLt_bf16_f32) shapeCasts_S12288x40_S12288x40x1) broadcasts_S12288x40x1_S12288x40x128)) shapeCasts_S12288x40x128_S12288x5120

theorem product_at (v : FVec Ideal S12288x40x128 .fp8e4m3) (s : FVec Ideal S12288x40 .f32) (r : Fin 12288) (k : Fin 5120) :
    product v s (ix2 r k) = v (ix3 r ⟨k.val / 128, by have := k.isLt; omega⟩ ⟨k.val % 128, by omega⟩) * s (ix2 r ⟨k.val / 128, by have := k.isLt; omega⟩) := by
  pointwise [product]

theorem pay7_eq (x : Vec Ideal S12288x5120 .bf16) : k0_pay7 (F := Ideal) x = product (k0_pay5 (F := Ideal) x) (k0_pay4 (F := Ideal) x) := rfl

theorem pay7_at (x : Vec Ideal S12288x5120 .bf16) (r : Fin 12288) (k : Fin 5120) :
    k0_pay7 (F := Ideal) x (ix2 r k) = refRebuilt (rowBlock x r ⟨k.val / 128, by have := k.isLt; omega⟩) ⟨k.val % 128, by omega⟩ := by
  rw [pay7_eq, product_at, pay5_at, pay4_at, refRebuilt]

/-! ## Projecting -/

variable (x : FVec Ideal S12288x5120 .bf16) (s : Vec Ideal S5x40 .f32) (w : Vec Ideal S576x5120 .fp8e4m3) (u : Vec Ideal S1x512 .bf16)

/-- Row `r` of the tokens against row `g` of the weights. -/
def dotRow (r : Fin 12288) (g : Fin 576) : EReal :=
  ∑ j : Fin 5120, x (ix2 r j) * (w (ix2 g j) * s (ix2 ⟨g.val / 128, by have := g.isLt; omega⟩ ⟨j.val / 128, by have := j.isLt; omega⟩))

theorem pay8_at (r : Fin 12288) (g : Fin 576) : k0_pay8 (F := Ideal) x s w (ix2 r g) = dotRow x s w r g := by
  unfold dotRow
  pointwise [k0_pay8]

/-- The normalised part of projections `y`. -/
def normed (y : FVec Ideal S12288x576 .f32) (u : Vec Ideal S1x512 .bf16) : FVec Ideal S12288x512 .bf16 :=
  have v56 : FVec Ideal S12288x512 .f32 := extractStridedSlice S12288x512 ![0, 0] y slices_S12288x576_o0_0_S12288x512
  truncf .bf16 (mulf (mulf v56 (broadcastTo S12288x512 (rsqrt (addf (divf (shapeCast S12288x1 (multiReduction .add [1] S12288 (mulf v56 v56) 0x00000000#32 reduces_S12288x512_S12288 (.inl rfl) rfl) shapeCasts_S12288_S12288x1)
    (broadcast S12288x1 (Scalar.ofBits .f32 0x44000000#32))) (broadcast S12288x1 (Scalar.ofBits .f32 0x358637BD#32)))) broadcasts_S12288x1_S12288x512))
    (broadcastTo S12288x512 (extf .f32 (shapeCast S1x512 u shapeCasts_S1x512_S1x512) bitsLt_bf16_f32) broadcasts_S1x512_S12288x512)) bitsLt_bf16_f32

theorem pay9_eq : k0_pay9 (F := Ideal) x s w u = normed (k0_pay8 (F := Ideal) x s w) u := rfl

theorem normed_at (y : FVec Ideal S12288x576 .f32) (r : Fin 12288) (k : Fin 512) : normed y u (ix2 r k) =
    y (ix2 r ⟨k.val, by have := k.isLt; omega⟩) * Ideal.rsqrt (Ideal.div (∑ q : Fin 512, y (ix2 r ⟨q.val, by have := q.isLt; omega⟩) * y (ix2 r ⟨q.val, by have := q.isLt; omega⟩)) (Ideal.ofBits FTy.f32 1140850688#32) + Ideal.ofBits FTy.f32 897988541#32) * u (ix2 0 k) := by
  pointwise [normed]

end Cert.ReferenceIdeal.Run

end
-- ==== Proof.RArr.lean ====
/-
  The four result arrays of the reference's run, entry by entry, from the argument arrays.
-/
module

public import proofs.«01_k».proof.Proof.RVal

@[expose] public section

set_option maxRecDepth 16384

noncomputable section

namespace Cert.ReferenceIdeal.Run

open Idealize.ShloMosaic Idealize.ShloMosaic.TcCoe Idealize.SL.Sem Cert.ReferenceIdeal Cert.ReferenceIdeal.Gen Cert.Blocks
open Idealize.ShloMosaic.Pipeline (Dat)

/-! ## The rope part -/

section Rope

variable (x : FVec Ideal S12288x5120 .bf16) (s : Vec Ideal S5x40 .f32) (w : Vec Ideal S576x5120 .fp8e4m3)

theorem pay11_at (r : Fin 12288) (g : Fin 32) : k0_pay11 (F := Ideal) x s w (ix2 r g) = dotRow x s w r ⟨512 + g.val * 2, by have := g.isLt; omega⟩ := by
  refine Eq.trans ?_ (pay8_at x s w r _)
  pointwise [k0_pay11, k0_pay10]

theorem pay12_at (r : Fin 12288) (g : Fin 32) : k0_pay12 (F := Ideal) x s w (ix2 r g) = dotRow x s w r ⟨512 + (g.val * 2 + 1), by have := g.isLt; omega⟩ := by
  refine Eq.trans ?_ (pay8_at x s w r _)
  pointwise [k0_pay12, k0_pay10]

theorem pay14_at (d : Vec Ideal S12288x1 .i32) (r : Fin 12288) (g : Fin 32) (h : d (ix2 r 0) = 0#32) : k0_pay14 (F := Ideal) d (ix2 r g) = (0 : EReal) := by
  have e : k0_pay14 (F := Ideal) d (ix2 r g) = FloatOps.sitofp .f32 (d (ix2 r 0)) := by pointwise [k0_pay14]
  rw [e, h]
  show (((0#32 : BitVec 32).toInt : ℝ) : EReal) = 0
  simp

theorem cos_zero' : Ideal.cos 0 = 1 := by
  show ((Real.cos 0 : ℝ) : EReal) = 1
  simp
theorem sin_zero' : Ideal.sin 0 = 0 := by
  show ((Real.sin 0 : ℝ) : EReal) = 0
  simp

/-- At angle zero the rope leaves its pairs as they are, interleaved. -/
theorem pay1_at (a b : FVec Ideal S12288x32 .f32) (f : FVec Ideal S1x32 .f32) (d : FVec Ideal S12288x32 .f32) (r : Fin 12288) (k : Fin 64) (j : Fin 32)
    (hj : j = ⟨k.val / 2, by have := k.isLt; omega⟩) (h : d (ix2 r j) = (0 : EReal)) :
    k0_pay1 (F := Ideal) a b f d (ix2 r k) = if k.val % 2 < 1 then a (ix2 r j) else b (ix2 r j) := by
  have e : k0_pay1 (F := Ideal) a b f d (ix2 r k) = if h : k.val % 2 < 1 then
      a (ix2 r j) * Ideal.cos (d (ix2 r j) * f (ix2 0 j)) - b (ix2 r j) * Ideal.sin (d (ix2 r j) * f (ix2 0 j))
    else a (ix2 r j) * Ideal.sin (d (ix2 r j) * f (ix2 0 j)) + b (ix2 r j) * Ideal.cos (d (ix2 r j) * f (ix2 0 j)) := by
    subst hj
    pointwise [k0_pay1]
  rw [e, h, zero_mul, cos_zero', sin_zero']
  split_ifs
  · rw [mul_one, mul_zero, sub_zero]
  · rw [mul_one, mul_zero, zero_add]

end Rope

/-! ## What the body leaves -/

theorem hz : (![0, 0] : Fin 2 → Nat) = fun _ => 0 := by decide

section Out

variable (x0 : Vec Ideal S12288x5120 .bf16) (x1 : Vec Ideal S576x5120 .fp8e4m3) (x2 : Vec Ideal S5x40 .f32) (x3 : Vec Ideal S1x512 .bf16) (x4 : Vec Ideal S12288x1 .i32) (x5 : Vec Ideal S1x32 .f32)

theorem pay15_eq : k0_pay15 (F := Ideal) x0 x1 x2 x3 x4 x5 = k0_pay7 (F := Ideal) x0 := by
  unfold k0_pay15
  rw [show View.ld x0 r0_0 = x0 from View.ld_unit_zero (S := S12288x5120) hz _ _]

theorem out6_eq : out0_6 (F := Ideal) x0 x1 x2 x3 x4 x5 = k0_pay9 (F := Ideal) (k0_pay7 (F := Ideal) x0) x2 x1 x3 := by
  unfold out0_6
  rw [pay15_eq, show View.ld x2 r0_2 = x2 from View.ld_unit_zero (S := S5x40) hz _ _, show View.ld x1 r0_3 = x1 from View.ld_unit_zero (S := S576x5120) hz _ _,
    show View.ld x3 r0_4 = x3 from View.ld_unit_zero (S := S1x512) hz _ _]
  exact View.canon_unit_zero (S := S12288x512) hz _ _

theorem out7_eq : out0_7 (F := Ideal) x0 x1 x2 x3 x4 x5 =
    k0_pay1 (F := Ideal) (k0_pay11 (F := Ideal) (k0_pay7 (F := Ideal) x0) x2 x1) (k0_pay12 (F := Ideal) (k0_pay7 (F := Ideal) x0) x2 x1) (k0_pay13 (F := Ideal) x5) (k0_pay14 (F := Ideal) x4) := by
  unfold out0_7
  rw [pay15_eq, show View.ld x2 r0_2 = x2 from View.ld_unit_zero (S := S5x40) hz _ _, show View.ld x1 r0_3 = x1 from View.ld_unit_zero (S := S576x5120) hz _ _,
    show View.ld x5 r0_7 = x5 from View.ld_unit_zero (S := S1x32) hz _ _, show View.ld x4 r0_6 = x4 from View.ld_unit_zero (S := S12288x1) hz _ _]
  exact View.canon_unit_zero (S := S12288x64) hz _ _

theorem out8_eq : out0_8 (F := Ideal) x0 x1 x2 x3 x4 x5 = k0_pay6 (F := Ideal) x0 := by
  unfold out0_8
  rw [show View.ld x0 r0_0 = x0 from View.ld_unit_zero (S := S12288x5120) hz _ _]
  exact View.canon_unit_zero (S := S12288x5120) hz _ _

theorem out9_eq : out0_9 (F := Ideal) x0 x1 x2 x3 x4 x5 = k0_pay4 (F := Ideal) x0 := by
  unfold out0_9
  rw [show View.ld x0 r0_0 = x0 from View.ld_unit_zero (S := S12288x5120) hz _ _]
  exact View.canon_unit_zero (S := S12288x40) hz _ _

end Out

/-! ## The arrays the one point reads -/

variable (m : (ℓ : Loc nD τ sig) → Buf (Elt Ideal) ℓ) (ρ : Dev nD → PrngReg) (c : Dev nD)

theorem V_x (r : Fin 12288) (k : Fin 5120) : V m c main_v10 (ix2 r k) = m ((c : Thread nD τ).loc main_arg0) (ix3 ⟨r.val / 2048, by have := r.isLt; omega⟩ ⟨r.val % 2048, by omega⟩ k) := by
  unfold V
  after_reads_at

theorem V_gamma (k : Fin 512) : V m c main_v11 (ix2 0 k) = m ((c : Thread nD τ).loc main_arg3) (ix1 k) := by
  unfold V
  after_reads_at

theorem V_pos (r : Fin 12288) : V m c main_v12 (ix2 r 0) = m ((c : Thread nD τ).loc main_arg4) (ix2 ⟨r.val / 2048, by have := r.isLt; omega⟩ ⟨r.val % 2048, by omega⟩) := by
  unfold V
  after_reads_at

theorem iblk_0 (t : Fin cfg0.N) : (iblk m c 0 t : Vec Ideal S12288x5120 .bf16) = V m c main_v10 := by
  unfold iblk
  exact Memref.read_access_unit_zero (Elt Ideal) main_v10 (funext fun a => Nat.zero_mul _) _ _
theorem iblk_1 (t : Fin cfg0.N) : (iblk m c 1 t : Vec Ideal S576x5120 .fp8e4m3) = V m c main_arg1 := by
  unfold iblk
  exact Memref.read_access_unit_zero (Elt Ideal) main_arg1 (funext fun a => Nat.zero_mul _) _ _
theorem iblk_2 (t : Fin cfg0.N) : (iblk m c 2 t : Vec Ideal S5x40 .f32) = V m c main_arg2 := by
  unfold iblk
  exact Memref.read_access_unit_zero (Elt Ideal) main_arg2 (funext fun a => Nat.zero_mul _) _ _
theorem iblk_3 (t : Fin cfg0.N) : (iblk m c 3 t : Vec Ideal S1x512 .bf16) = V m c main_v11 := by
  unfold iblk
  exact Memref.read_access_unit_zero (Elt Ideal) main_v11 (funext fun a => Nat.zero_mul _) _ _
theorem iblk_4 (t : Fin cfg0.N) : (iblk m c 4 t : Vec Ideal S12288x1 .i32) = V m c main_v12 := by
  unfold iblk
  exact Memref.read_access_unit_zero (Elt Ideal) main_v12 (funext fun a => Nat.zero_mul _) _ _

/-! ## The results -/

def res6 : Vec Ideal S12288x512 .bf16 := (dats m 0 c).after 6 t0_0
def res7 : Vec Ideal S12288x64 .bf16 := (dats m 0 c).after 7 t0_0
def res8 : Vec Ideal S12288x5120 .fp8e4m3 := (dats m 0 c).after 8 t0_0
def res9 : Vec Ideal S12288x40 .f32 := (dats m 0 c).after 9 t0_0

theorem final_6 : (dats m 0 c).arrAt 6 cfg0.N = res6 m c :=
  (dats m 0 c).arrAt_eq_of_cover 6 (res6 m c) (fun t _ => by
    show (cfg0.win 6).cut (grid0.coords t) ((dats m 0 c).after 6 t) = _
    rw [show t = t0_0 from fin_N0 t]
    exact (Memref.read_access_unit_zero (Elt Ideal) main_v14_0 (funext fun a => Nat.zero_mul _) _ (res6 m c)).symm)
  fun i => ⟨t0_0, flush0_6 _, by
    show i ∈ ((View.whole main_v14_0).slice (win0_6.rect t0_0)).set
    rw [View.set_slice_whole, Rect.mem_set_unit]
    have h0 : (i 0 : Nat) < 12288 := (i 0).isLt
    have h1 : (i 1 : Nat) < 512 := (i 1).isLt
    intro a
    match a with
    | ⟨0, _⟩ => show 0 * 12288 ≤ (i 0 : Nat) ∧ (i 0 : Nat) < 0 * 12288 + 12288; omega
    | ⟨1, _⟩ => show 0 * 512 ≤ (i 1 : Nat) ∧ (i 1 : Nat) < 0 * 512 + 512; omega⟩

theorem final_7 : (dats m 0 c).arrAt 7 cfg0.N = res7 m c :=
  (dats m 0 c).arrAt_eq_of_cover 7 (res7 m c) (fun t _ => by
    show (cfg0.win 7).cut (grid0.coords t) ((dats m 0 c).after 7 t) = _
    rw [show t = t0_0 from fin_N0 t]
    exact (Memref.read_access_unit_zero (Elt Ideal) main_v14_1 (funext fun a => Nat.zero_mul _) _ (res7 m c)).symm)
  fun i => ⟨t0_0, flush0_7 _, by
    show i ∈ ((View.whole main_v14_1).slice (win0_7.rect t0_0)).set
    rw [View.set_slice_whole, Rect.mem_set_unit]
    have h0 : (i 0 : Nat) < 12288 := (i 0).isLt
    have h1 : (i 1 : Nat) < 64 := (i 1).isLt
    intro a
    match a with
    | ⟨0, _⟩ => show 0 * 12288 ≤ (i 0 : Nat) ∧ (i 0 : Nat) < 0 * 12288 + 12288; omega
    | ⟨1, _⟩ => show 0 * 64 ≤ (i 1 : Nat) ∧ (i 1 : Nat) < 0 * 64 + 64; omega⟩

theorem final_8 : (dats m 0 c).arrAt 8 cfg0.N = res8 m c :=
  (dats m 0 c).arrAt_eq_of_cover 8 (res8 m c) (fun t _ => by
    show (cfg0.win 8).cut (grid0.coords t) ((dats m 0 c).after 8 t) = _
    rw [show t = t0_0 from fin_N0 t]
    exact (Memref.read_access_unit_zero (Elt Ideal) main_v14_2 (funext fun a => Nat.zero_mul _) _ (res8 m c)).symm)
  fun i => ⟨t0_0, flush0_8 _, by
    show i ∈ ((View.whole main_v14_2).slice (win0_8.rect t0_0)).set
    rw [View.set_slice_whole, Rect.mem_set_unit]
    have h0 : (i 0 : Nat) < 12288 := (i 0).isLt
    have h1 : (i 1 : Nat) < 5120 := (i 1).isLt
    intro a
    match a with
    | ⟨0, _⟩ => show 0 * 12288 ≤ (i 0 : Nat) ∧ (i 0 : Nat) < 0 * 12288 + 12288; omega
    | ⟨1, _⟩ => show 0 * 5120 ≤ (i 1 : Nat) ∧ (i 1 : Nat) < 0 * 5120 + 5120; omega⟩

theorem final_9 : (dats m 0 c).arrAt 9 cfg0.N = res9 m c :=
  (dats m 0 c).arrAt_eq_of_cover 9 (res9 m c) (fun t _ => by
    show (cfg0.win 9).cut (grid0.coords t) ((dats m 0 c).after 9 t) = _
    rw [show t = t0_0 from fin_N0 t]
    exact (Memref.read_access_unit_zero (Elt Ideal) main_v14_3 (funext fun a => Nat.zero_mul _) _ (res9 m c)).symm)
  fun i => ⟨t0_0, flush0_9 _, by
    show i ∈ ((View.whole main_v14_3).slice (win0_9.rect t0_0)).set
    rw [View.set_slice_whole, Rect.mem_set_unit]
    have h0 : (i 0 : Nat) < 12288 := (i 0).isLt
    have h1 : (i 1 : Nat) < 40 := (i 1).isLt
    intro a
    match a with
    | ⟨0, _⟩ => show 0 * 12288 ≤ (i 0 : Nat) ∧ (i 0 : Nat) < 0 * 12288 + 12288; omega
    | ⟨1, _⟩ => show 0 * 40 ≤ (i 1 : Nat) ∧ (i 1 : Nat) < 0 * 40 + 40; omega⟩

/-! ## The entries -/

/-- Block `g` of token `r`. -/
def xblock (r : Fin 12288) (g : Fin 40) : Fin 128 → EReal := fun k =>
  m ((c : Thread nD τ).loc main_arg0) (ix3 ⟨r.val / 2048, by have := r.isLt; omega⟩ ⟨r.val % 2048, by omega⟩ ⟨g.val * 128 + k.val, by have := g.isLt; have := k.isLt; omega⟩)

theorem rowBlock_eq (r : Fin 12288) (g : Fin 40) : rowBlock (V m c main_v10) r g = xblock m c r g := by
  funext k
  exact V_x m c r _

/-- Token `r` rebuilt, feature `k`. -/
def xhat (r : Fin 12288) (k : Fin 5120) : EReal := refRebuilt (xblock m c r ⟨k.val / 128, by have := k.isLt; omega⟩) ⟨k.val % 128, by omega⟩

/-- Entry `(g, j)` of the weights times its tile's scale. -/
def weight (w : Vec Ideal S576x5120 .fp8e4m3) (s : Vec Ideal S5x40 .f32) (g : Fin 576) (j : Fin 5120) : EReal :=
  w (ix2 g j) * s (ix2 ⟨g.val / 128, by have := g.isLt; omega⟩ ⟨j.val / 128, by have := j.isLt; omega⟩)

/-- Token `r`'s projection on row `g` of the weights. -/
def proj (r : Fin 12288) (g : Fin 576) : EReal :=
  ∑ j : Fin 5120, xhat m c r j * weight (m ((c : Thread nD τ).loc main_arg1)) (m ((c : Thread nD τ).loc main_arg2)) g j

theorem dotRow_eq (r : Fin 12288) (g : Fin 576) : dotRow (k0_pay7 (F := Ideal) (V m c main_v10)) (V m c main_arg2) (V m c main_arg1) r g = proj m c r g := by
  unfold dotRow proj
  rw [V_main_arg1 m c, V_main_arg2 m c]
  refine Finset.sum_congr rfl fun j _ => ?_
  rw [pay7_at, rowBlock_eq]
  rfl

theorem res6_at (r : Fin 12288) (k : Fin 512) : res6 m c (ix2 r k) =
    proj m c r ⟨k.val, by have := k.isLt; omega⟩ *
      Ideal.rsqrt (Ideal.div (∑ q : Fin 512, proj m c r ⟨q.val, by have := q.isLt; omega⟩ * proj m c r ⟨q.val, by have := q.isLt; omega⟩) (Ideal.ofBits FTy.f32 1140850688#32) + Ideal.ofBits FTy.f32 897988541#32) *
      m ((c : Thread nD τ).loc main_arg3) (ix1 k) := by
  unfold res6
  rw [after0_6, iblk_0, iblk_1, iblk_2, iblk_3, out6_eq, pay9_eq, normed_at, V_gamma]
  have e : ∀ g : Fin 576, k0_pay8 (F := Ideal) (k0_pay7 (F := Ideal) (V m c main_v10)) (V m c main_arg2) (V m c main_arg1) (ix2 r g) = proj m c r g :=
    fun g => (pay8_at _ _ _ r g).trans (dotRow_eq m c r g)
  generalize k0_pay8 (F := Ideal) (k0_pay7 (F := Ideal) (V m c main_v10)) (V m c main_arg2) (V m c main_arg1) = y at e ⊢
  simp only [e]

theorem res7_at (r : Fin 12288) (k : Fin 64) (hp : m ((c : Thread nD τ).loc main_arg4) (ix2 ⟨r.val / 2048, by have := r.isLt; omega⟩ ⟨r.val % 2048, by omega⟩) = 0#32) :
    res7 m c (ix2 r k) = proj m c r ⟨512 + k.val, by have := k.isLt; omega⟩ := by
  unfold res7
  rw [after0_7, iblk_0, iblk_1, iblk_2, iblk_4, out7_eq, pay1_at _ _ _ _ r k _ rfl (pay14_at _ r _ ((V_pos m c r).trans hp)), pay11_at, pay12_at, dotRow_eq, dotRow_eq]
  split_ifs with h
  · congr 1; apply Fin.ext; show 512 + k.val / 2 * 2 = 512 + k.val; omega
  · congr 1; apply Fin.ext; show 512 + (k.val / 2 * 2 + 1) = 512 + k.val; omega

theorem res8_at (r : Fin 12288) (k : Fin 5120) : res8 m c (ix2 r k) = refCode (xblock m c r ⟨k.val / 128, by have := k.isLt; omega⟩) ⟨k.val % 128, by omega⟩ := by
  unfold res8
  rw [after0_8, iblk_0, out8_eq, pay6_at, rowBlock_eq]

theorem res9_at (r : Fin 12288) (g : Fin 40) : res9 m c (ix2 r g) = refScale (xblock m c r g) := by
  unfold res9
  rw [after0_9, iblk_0, out9_eq, pay4_at, rowBlock_eq]

/-! ## The run -/

theorem run : θ_run (defs (F := Ideal)) (onTc (τ := τ) (main (F := Ideal))) (s₀ m ρ) fun r => ∀ c : Dev nD,
    r.2.mem ((c.tc : Thread nD τ).loc main_v14_0) = res6 m c ∧ r.2.mem ((c.tc : Thread nD τ).loc main_v14_1) = res7 m c ∧
    r.2.mem ((c.tc : Thread nD τ).loc main_v14_2) = res8 m c ∧ r.2.mem ((c.tc : Thread nD τ).loc main_v14_3) = res9 m c :=
  (θ_run defs _ _).mono (fun _ h c => ⟨((h c).1 6).trans (final_6 m c), ((h c).1 7).trans (final_7 m c), ((h c).1 8).trans (final_8 m c), ((h c).1 9).trans (final_9 m c)⟩) (run_main m ρ)

end Cert.ReferenceIdeal.Run

end
-- ==== Proof.Mask.lean ====
/-
  What the mask says of a token where it is set.
-/
module

public import proofs.«01_k».proof.Proof.Gen.On_claimed
public import proofs.«01_k».proof.Proof.Scaling
public import Idealize.ShloMosaic.Lib.Pointwise

@[expose] public section

noncomputable section

namespace Cert.Mask

open Idealize.ShloMosaic Cert.On_claimed Cert.On_claimed.Gen Cert.Blocks

variable (d : IVec S6x2048 32) (v3 : FVec Ideal S12288x40 .f32) (v7 v9 v15 : IVec S12288x40 1) (v16 : FVec Ideal S12288x40 .f32)

/-! ## Bits -/

theorem andi_one (a b : BitVec 1) (h : IntOp.andi a b = 1#1) : a = 1#1 ∧ b = 1#1 := by
  revert h; revert a b; decide
theorem ori_one (a b : BitVec 1) (h : IntOp.ori a b = 1#1) : a = 1#1 ∨ b = 1#1 := by
  revert h; revert a b; decide
theorem ofBool_one (p : Prop) [Decidable p] (h : BitVec.ofBool (decide p) = 1#1) : p := by
  by_contra hn
  rw [decide_eq_false hn] at h
  exact absurd h (by decide)

theorem fold_one {ι : Type} [DecidableEq ι] (S : Finset ι) (f : ι → BitVec 1) (h : S.fold IntOp.andi 1#1 f = 1#1) : ∀ i ∈ S, f i = 1#1 := by
  induction S using Finset.induction_on with
  | empty => intro i hi; exact absurd hi (Finset.notMem_empty i)
  | insert a S ha ih =>
    rw [Finset.fold_insert ha] at h
    obtain ⟨h1, h2⟩ := andi_one _ _ h
    intro i hi
    rcases Finset.mem_insert.mp hi with rfl | hi
    · exact h1
    · exact ih h2 i hi

/-! ## The four masks, from the blocks' magnitudes -/

theorem part_0 (r : Fin 12288) (c : Fin 512) : (fn_part1 (F := Ideal) d v3 v7 v9 v15 v16).1 (ix2 r c) = (Finset.univ : Finset (Fin 40)).fold IntOp.andi 1#1 (fun g => v7 (ix2 r g)) := by
  pointwise [fn_part1]
theorem part_1 (r : Fin 12288) (c : Fin 64) : (fn_part1 (F := Ideal) d v3 v7 v9 v15 v16).2.1 (ix2 r c) =
    IntOp.andi ((Finset.univ : Finset (Fin 40)).fold IntOp.andi 1#1 (fun g => v7 (ix2 r g)))
      (IntOp.cmpi .eq (d (ix2 ⟨r.val / 2048, by have := r.isLt; omega⟩ ⟨r.val % 2048, by omega⟩)) 0#32) := by
  pointwise [fn_part1]
theorem part_2 (r : Fin 12288) (c : Fin 5120) : (fn_part1 (F := Ideal) d v3 v7 v9 v15 v16).2.2.1 (ix2 r c) = v15 (ix2 r ⟨c.val / 128, by have := c.isLt; omega⟩) := by
  pointwise [fn_part1]
theorem part_3 (r : Fin 12288) (g : Fin 40) : (fn_part1 (F := Ideal) d v3 v7 v9 v15 v16).2.2.2 (ix2 r g) =
    IntOp.ori (BitVec.ofBool (decide (v3 (ix2 r g) = v16 (ix2 r g)))) (IntOp.andi (v9 (ix2 r g)) (BitVec.ofBool (decide (v3 (ix2 r g) < Ideal.ofBits FTy.f32 2136997888#32)))) := by
  pointwise [fn_part1]

/-- The blocks' largest magnitudes. -/
def maxima (x : FVec Ideal S6x2048x5120 .bf16) : FVec Ideal S12288x40 .f32 :=
  extf .f32 (Host.reduce FloatOps.maximumf (Host.absf (shapeCast S12288x40x128 x Facts.shapeCasts_S6x2048x5120_S12288x40x128)) (constant (F := Ideal) S_ .bf16 0xFF80#16) Facts.reducesTo_S12288x40x128_S12288x40_d2 Facts.h_S_) Facts.bitsLt_bf16_f32

theorem maxima_at (x : FVec Ideal S6x2048x5120 .bf16) (r : Fin 12288) (g : Fin 40) : maxima x (ix2 r g) =
    amax fun k => x (ix3 ⟨r.val / 2048, by have := r.isLt; omega⟩ ⟨r.val % 2048, by omega⟩ ⟨g.val * 128 + k.val, by have := g.isLt; have := k.isLt; omega⟩) := by
  unfold amax
  pointwise [maxima]

/-- Half the magnitudes at most the bound. -/
def kept7 : IVec S12288x40 1 := cmpf .ole (mulf v3 (broadcastInDim S12288x40 ![] Facts.bcast_S_S12288x40 (constant S_ .f32 0x3F000000#32))) (broadcastInDim S12288x40 ![] Facts.bcast_S_S12288x40 (constant S_ .f32 0x7F600000#32))
/-- The magnitudes at least the lower bound. -/
def kept9 : IVec S12288x40 1 := cmpf .oge v3 (broadcastInDim S12288x40 ![] Facts.bcast_S_S12288x40 (constant S_ .f32 0x04600000#32))
/-- The magnitudes zero or between both bounds. -/
def kept15 : IVec S12288x40 1 := ori (cmpf .oeq v3 (broadcastInDim S12288x40 ![] Facts.bcast_S_S12288x40 (constant S_ .f32 0x00000000#32)))
  (andi (kept9 v3) (cmpf .olt (mulf v3 (broadcastInDim S12288x40 ![] Facts.bcast_S_S12288x40 (constant S_ .f32 0x3F000000#32))) (broadcastInDim S12288x40 ![] Facts.bcast_S_S12288x40 (constant S_ .f32 0x7F600000#32))))
/-- Zeros. -/
def zeros : FVec Ideal S12288x40 .f32 := broadcastInDim S12288x40 ![] Facts.bcast_S_S12288x40 (constant S_ .f32 0x00000000#32)

theorem kept7_at (r : Fin 12288) (g : Fin 40) : kept7 v3 (ix2 r g) = BitVec.ofBool (decide (v3 (ix2 r g) * Ideal.ofBits .f32 0x3F000000#32 ≤ Ideal.ofBits .f32 0x7F600000#32)) := by
  pointwise [kept7]
theorem kept9_at (r : Fin 12288) (g : Fin 40) : kept9 v3 (ix2 r g) = BitVec.ofBool (decide (Ideal.ofBits .f32 0x04600000#32 ≤ v3 (ix2 r g))) := by
  pointwise [kept9]
theorem kept15_at (r : Fin 12288) (g : Fin 40) : kept15 v3 (ix2 r g) = IntOp.ori (BitVec.ofBool (decide (v3 (ix2 r g) = 0)))
    (IntOp.andi (BitVec.ofBool (decide (Ideal.ofBits .f32 0x04600000#32 ≤ v3 (ix2 r g)))) (BitVec.ofBool (decide (v3 (ix2 r g) * Ideal.ofBits .f32 0x3F000000#32 < Ideal.ofBits .f32 0x7F600000#32)))) := by
  pointwise [kept15, kept9]
theorem zeros_at (r : Fin 12288) (g : Fin 40) : zeros (ix2 r g) = (0 : EReal) := by
  pointwise [zeros]

variable (x : FVec Ideal S6x2048x5120 .bf16) (a : FVec Ideal S576x5120 .fp8e4m3) (b : FVec Ideal S5x40 .f32) (e : FVec Ideal S512 .bf16)

theorem fn_eq : fn (F := Ideal) x a b e d = fn_part1 (F := Ideal) d (maxima x) (kept7 (maxima x)) (kept9 (maxima x)) (kept15 (maxima x)) zeros := rfl

/-- Block `g` of token `r`. -/
def block (r : Fin 12288) (g : Fin 40) : Fin 128 → EReal := fun k =>
  x (ix3 ⟨r.val / 2048, by have := r.isLt; omega⟩ ⟨r.val % 2048, by omega⟩ ⟨g.val * 128 + k.val, by have := g.isLt; have := k.isLt; omega⟩)

theorem max_block (r : Fin 12288) (g : Fin 40) : maxima x (ix2 r g) = amax (block x r g) := maxima_at x r g

theorem mask_0 (r : Fin 12288) (c : Fin 512) (h : (fn (F := Ideal) x a b e d).1 (ix2 r c) = 1#1) (g : Fin 40) :
    amax (block x r g) * Ideal.ofBits .f32 0x3F000000#32 ≤ Ideal.ofBits .f32 0x7F600000#32 := by
  rw [fn_eq, part_0] at h
  have := fold_one _ _ h g (Finset.mem_univ g)
  rw [kept7_at, max_block] at this
  exact ofBool_one _ this

theorem mask_1 (r : Fin 12288) (c : Fin 64) (h : (fn (F := Ideal) x a b e d).2.1 (ix2 r c) = 1#1) :
    (∀ g : Fin 40, amax (block x r g) * Ideal.ofBits .f32 0x3F000000#32 ≤ Ideal.ofBits .f32 0x7F600000#32) ∧
      d (ix2 ⟨r.val / 2048, by have := r.isLt; omega⟩ ⟨r.val % 2048, by omega⟩) = 0#32 := by
  rw [fn_eq, part_1] at h
  obtain ⟨h1, h2⟩ := andi_one _ _ h
  refine ⟨fun g => ?_, ?_⟩
  · have := fold_one _ _ h1 g (Finset.mem_univ g)
    rw [kept7_at, max_block] at this
    exact ofBool_one _ this
  · have h3 : BitVec.ofBool (decide (d (ix2 ⟨r.val / 2048, by have := r.isLt; omega⟩ ⟨r.val % 2048, by omega⟩) = 0#32)) = 1#1 := by
      rw [← h2]; rfl
    exact ofBool_one _ h3

theorem mask_2 (r : Fin 12288) (c : Fin 5120) (h : (fn (F := Ideal) x a b e d).2.2.1 (ix2 r c) = 1#1) :
    amax (block x r ⟨c.val / 128, by have := c.isLt; omega⟩) = 0 ∨ (Ideal.ofBits .f32 0x04600000#32 ≤ amax (block x r ⟨c.val / 128, by have := c.isLt; omega⟩) ∧
      amax (block x r ⟨c.val / 128, by have := c.isLt; omega⟩) * Ideal.ofBits .f32 0x3F000000#32 < Ideal.ofBits .f32 0x7F600000#32) := by
  rw [fn_eq, part_2, kept15_at, max_block] at h
  rcases ori_one _ _ h with h | h
  · exact Or.inl (ofBool_one _ h)
  · obtain ⟨h1, h2⟩ := andi_one _ _ h
    exact Or.inr ⟨ofBool_one _ h1, ofBool_one _ h2⟩

theorem mask_3 (r : Fin 12288) (g : Fin 40) (h : (fn (F := Ideal) x a b e d).2.2.2 (ix2 r g) = 1#1) :
    amax (block x r g) = 0 ∨ (Ideal.ofBits .f32 0x04600000#32 ≤ amax (block x r g) ∧ amax (block x r g) < Ideal.ofBits .f32 0x7F600000#32) := by
  rw [fn_eq, part_3, kept9_at, zeros_at, max_block] at h
  rcases ori_one _ _ h with h | h
  · exact Or.inl (ofBool_one _ h)
  · obtain ⟨h1, h2⟩ := andi_one _ _ h
    exact Or.inr ⟨ofBool_one _ h1, ofBool_one _ h2⟩

end Cert.Mask

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.On_claimed
public import proofs.«01_k».proof.Proof.PFrame
public import proofs.«01_k».proof.Proof.KArr
public import proofs.«01_k».proof.Proof.RArr
public import proofs.«01_k».proof.Proof.Mask
public import Idealize.ShloMosaic.Lib.Bf16Pair
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-! ## The two runs' results, where the mask is set -/

section Values

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The kernel's arguments. -/
abbrev a0 : FVec Ideal Cert.On_claimed.S6x2048x5120 .bf16 := m ((c.tc : Thread Cert.KernelIdeal.nD Cert.KernelIdeal.τ).loc Cert.KernelIdeal.main_arg0)
abbrev a1 : FVec Ideal Cert.On_claimed.S576x5120 .fp8e4m3 := m ((c.tc : Thread Cert.KernelIdeal.nD Cert.KernelIdeal.τ).loc Cert.KernelIdeal.main_arg1)
abbrev a2 : FVec Ideal Cert.On_claimed.S5x40 .f32 := m ((c.tc : Thread Cert.KernelIdeal.nD Cert.KernelIdeal.τ).loc Cert.KernelIdeal.main_arg2)
abbrev a3 : FVec Ideal Cert.On_claimed.S512 .bf16 := m ((c.tc : Thread Cert.KernelIdeal.nD Cert.KernelIdeal.τ).loc Cert.KernelIdeal.main_arg3)
abbrev a4 : IVec Cert.On_claimed.S6x2048 32 := m ((c.tc : Thread Cert.KernelIdeal.nD Cert.KernelIdeal.τ).loc Cert.KernelIdeal.main_arg4)

/-- The two memories hold the same arguments on device `c`. -/
structure Agree : Prop where
  e0 : m' ((c.tc : Thread Cert.ReferenceIdeal.nD Cert.ReferenceIdeal.τ).loc Cert.ReferenceIdeal.main_arg0) = a0 m c
  e1 : m' ((c.tc : Thread Cert.ReferenceIdeal.nD Cert.ReferenceIdeal.τ).loc Cert.ReferenceIdeal.main_arg1) = a1 m c
  e2 : m' ((c.tc : Thread Cert.ReferenceIdeal.nD Cert.ReferenceIdeal.τ).loc Cert.ReferenceIdeal.main_arg2) = a2 m c
  e3 : m' ((c.tc : Thread Cert.ReferenceIdeal.nD Cert.ReferenceIdeal.τ).loc Cert.ReferenceIdeal.main_arg3) = a3 m c
  e4 : m' ((c.tc : Thread Cert.ReferenceIdeal.nD Cert.ReferenceIdeal.τ).loc Cert.ReferenceIdeal.main_arg4) = a4 m c

variable {m m' c} (h : Agree m m' c)
include h

theorem block_eq (r : Fin 12288) (g : Fin 40) : Cert.ReferenceIdeal.Run.xblock m' c r g = Cert.KernelIdeal.Run.xblock m c r g := by
  funext k
  exact congrFun h.e0 _

theorem weight_eq (g : Fin 576) (j : Fin 5120) :
    Cert.ReferenceIdeal.Run.weight (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) g j = Cert.KernelIdeal.Run.what m c g j := by
  rw [h.e1, h.e2]; rfl

/-- Where every block of the token is in range, both rebuild the token itself, and project it the same. -/
theorem proj_eq (r : Fin 12288) (hr : ∀ g : Fin 40, Blocks.amax (Cert.Mask.block (a0 m c) r g) * Ideal.ofBits .f32 0x3F000000#32 ≤ Ideal.ofBits .f32 0x7F600000#32) (g : Fin 576) :
    Cert.ReferenceIdeal.Run.proj m' c r g = ∑ j : Fin 5120, Cert.KernelIdeal.Run.what m c g j * Cert.KernelIdeal.Run.xhat m c r j := by
  unfold Cert.ReferenceIdeal.Run.proj
  refine Finset.sum_congr rfl fun j _ => ?_
  rw [weight_eq h, mul_comm]
  congr 1
  unfold Cert.ReferenceIdeal.Run.xhat Cert.KernelIdeal.Run.xhat
  rw [block_eq h]
  have hb := hr ⟨j.val / 128, by have := j.isLt; omega⟩
  obtain ⟨a, ha, _, _⟩ := Blocks.real_of_half _ (Blocks.amax_nonneg _) hb
  exact (Blocks.refRebuilt_eq _ a ha _).trans (Blocks.rebuilt_eq _ hb _).symm

theorem value_0 (i : (⟨2, ![12288, 512]⟩ : Shape).Idx) (hi : (Cert.On_claimed.fn (F := Ideal) (a0 m c) (a1 m c) (a2 m c) (a3 m c) (a4 m c)).1 i = 1#1) :
    Cert.ReferenceIdeal.Run.res6 m' c i = Cert.KernelIdeal.Run.res6 m c i := by
  obtain ⟨r, k, rfl⟩ : ∃ (r : Fin 12288) (k : Fin 512), i = ix2 r k := ⟨i 0, i 1, Cert.KernelIdeal.Run.idx_eta i⟩
  have hr := Cert.Mask.mask_0 _ _ _ _ _ r k hi
  refine (Cert.ReferenceIdeal.Run.res6_at m' c r k).trans (Eq.trans ?_ (Cert.KernelIdeal.Run.res6_at m c r k).symm)
  have e := proj_eq h r hr
  have e3 : m' ((c.tc : Thread Cert.ReferenceIdeal.nD Cert.ReferenceIdeal.τ).loc Cert.ReferenceIdeal.main_arg3) (ix1 k) = a3 m c (ix1 k) := congrFun h.e3 _
  generalize Cert.ReferenceIdeal.Run.proj m' c r = p at e ⊢
  obtain rfl : p = fun g => ∑ j : Fin 5120, Cert.KernelIdeal.Run.what m c g j * Cert.KernelIdeal.Run.xhat m c r j := funext e
  exact congrArg (_ * ·) e3

theorem value_1 (i : (⟨2, ![12288, 64]⟩ : Shape).Idx) (hi : (Cert.On_claimed.fn (F := Ideal) (a0 m c) (a1 m c) (a2 m c) (a3 m c) (a4 m c)).2.1 i = 1#1) :
    Cert.ReferenceIdeal.Run.res7 m' c i = Cert.KernelIdeal.Run.res7 m c i := by
  obtain ⟨r, k, rfl⟩ : ∃ (r : Fin 12288) (k : Fin 64), i = ix2 r k := ⟨i 0, i 1, Cert.KernelIdeal.Run.idx_eta i⟩
  obtain ⟨hr, hp⟩ := Cert.Mask.mask_1 _ _ _ _ _ r k hi
  refine (Cert.ReferenceIdeal.Run.res7_at m' c r k ((congrFun h.e4 _).trans hp)).trans (Eq.trans ?_ (Cert.KernelIdeal.Run.res7_at m c r k hp).symm)
  exact proj_eq h r hr _

theorem value_2 (i : (⟨2, ![12288, 5120]⟩ : Shape).Idx) (hi : (Cert.On_claimed.fn (F := Ideal) (a0 m c) (a1 m c) (a2 m c) (a3 m c) (a4 m c)).2.2.1 i = 1#1) :
    Cert.ReferenceIdeal.Run.res8 m' c i = Cert.KernelIdeal.Run.res8 m c i := by
  obtain ⟨r, k, rfl⟩ : ∃ (r : Fin 12288) (k : Fin 5120), i = ix2 r k := ⟨i 0, i 1, Cert.KernelIdeal.Run.idx_eta i⟩
  refine (Cert.ReferenceIdeal.Run.res8_at m' c r k).trans (Eq.trans ?_ (Cert.KernelIdeal.Run.res8_at m c r k).symm)
  rw [block_eq h]
  exact (Blocks.code_eq _ (Cert.Mask.mask_2 _ _ _ _ _ r k hi) _).symm

theorem value_3 (i : (⟨2, ![12288, 40]⟩ : Shape).Idx) (hi : (Cert.On_claimed.fn (F := Ideal) (a0 m c) (a1 m c) (a2 m c) (a3 m c) (a4 m c)).2.2.2 i = 1#1) :
    Cert.ReferenceIdeal.Run.res9 m' c i = Cert.KernelIdeal.Run.res9 m c i := by
  obtain ⟨r, g, rfl⟩ : ∃ (r : Fin 12288) (g : Fin 40), i = ix2 r g := ⟨i 0, i 1, Cert.KernelIdeal.Run.idx_eta i⟩
  refine (Cert.ReferenceIdeal.Run.res9_at m' c r g).trans (Eq.trans ?_ (Cert.KernelIdeal.Run.res9_at m c r g).symm)
  rw [block_eq h]
  exact (Blocks.scale_eq _ (Cert.Mask.mask_3 _ _ _ _ _ r g hi)).symm

end Values

/-- The two programs' results agree where the mask is set. -/
theorem algebraic : algebraic_KernelIdeal_ReferenceIdeal_on_claimed := fun m g m' g' _ hargs => by
  have h : ∀ c, Agree m m' c := fun c => ⟨(hargs c).1, (hargs c).2.1, (hargs c).2.2.1, (hargs c).2.2.2.1, (hargs c).2.2.2.2⟩
  refine ⟨Cert.KernelIdeal.Run.res6 m, Cert.KernelIdeal.Run.res7 m, Cert.KernelIdeal.Run.res8 m, Cert.KernelIdeal.Run.res9 m, ?_, ?_⟩
  · refine (θ_run (Cert.KernelIdeal.defs (F := Ideal)) _ _).mono ?_ (θ_run_and (Cert.KernelIdeal.Run.run m g) (Cert.KernelIdeal.Run.unchanged m g))
    rintro r ⟨h1, h2⟩ c
    obtain ⟨r0, r1, r2, r3⟩ := h1 c
    exact ⟨fun i _ => congrFun r0 i, fun i _ => congrFun r1 i, fun i _ => congrFun r2 i, fun i _ => congrFun r3 i, h2 c⟩
  · refine (θ_run (Cert.ReferenceIdeal.defs (F := Ideal)) _ _).mono ?_ (θ_run_and (Cert.ReferenceIdeal.Run.run m' g') (Cert.ReferenceIdeal.Gen.frame m' g'))
    rintro r ⟨h1, h2, _⟩ c
    obtain ⟨r0, r1, r2, r3⟩ := h1 c
    exact ⟨fun i hi => (congrFun r0 i).trans (value_0 (h c) i hi), fun i hi => (congrFun r1 i).trans (value_1 (h c) i hi),
      fun i hi => (congrFun r2 i).trans (value_2 (h c) i hi), fun i hi => (congrFun r3 i).trans (value_3 (h c) i hi), h2 c⟩

theorem claim : Cert.Claim := ⟨Cert.Kernel.Gen.facts, Cert.KernelIdeal.Gen.facts, Cert.ReferenceIdeal.Gen.facts, Cert.On_claimed.Gen.facts,
  fun m ρ _ => Cert.Kernel.Run.frame m ρ, fun m ρ _ => Cert.KernelIdeal.Run.frame m ρ, fun m ρ _ => Cert.ReferenceIdeal.Gen.frame m ρ,
  ⟨IdealRules.bf16_pair.statement Cert.KernelIdeal.S64x128 Cert.KernelIdeal.S32x128, IdealRules.bf16_pair.statement Cert.KernelIdeal.S64x512 Cert.KernelIdeal.S32x512,
    IdealRules.bf16_pack.statement Cert.KernelIdeal.S32x512⟩, algebraic⟩

end Cert.Proof

end
